-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.bf16_pair.Statement Cert.KernelIdeal.S512x128 Cert.KernelIdeal.S256x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x1x16128 : Shape := ⟨3, ![128, 1, 16128]⟩
abbrev S8704x16128 : Shape := ⟨2, ![8704, 16128]⟩
abbrev S8704x504 : Shape := ⟨2, ![8704, 504]⟩
abbrev S128x16128 : Shape := ⟨2, ![128, 16128]⟩
abbrev S128x8704 : Shape := ⟨2, ![128, 8704]⟩
abbrev S256x2304 : Shape := ⟨2, ![256, 2304]⟩
abbrev S256x504 : Shape := ⟨2, ![256, 504]⟩
abbrev S128x256 : Shape := ⟨2, ![128, 256]⟩
abbrev S2x504x128 : Shape := ⟨3, ![2, 504, 128]⟩
abbrev S128x504 : Shape := ⟨2, ![128, 504]⟩
abbrev S504x128 : Shape := ⟨2, ![504, 128]⟩
abbrev S1x504x128 : Shape := ⟨3, ![1, 504, 128]⟩
abbrev S256x256 : Shape := ⟨2, ![256, 256]⟩
abbrev S64x256 : Shape := ⟨2, ![64, 256]⟩
abbrev S256x128 : Shape := ⟨2, ![256, 128]⟩
abbrev S128x128 : Shape := ⟨2, ![128, 128]⟩
abbrev S512x128 : Shape := ⟨2, ![512, 128]⟩
abbrev S1x1x128 : Shape := ⟨3, ![1, 1, 128]⟩
abbrev S1x128 : Shape := ⟨2, ![1, 128]⟩
abbrev S32x128 : Shape := ⟨2, ![32, 128]⟩
abbrev S128x128x1 : Shape := ⟨3, ![128, 128, 1]⟩

abbrev nBuf : Space → Nat
  | .hbm => 7
  | .vmem => 15
  | .smem => 0
  | _ => 0

abbrev bufTy : (tb : Table) → Fin (tcTables nBuf tb) → BufTy
  | .hbm, ⟨0, _⟩ => ⟨S128x1x16128, .bf16⟩
  | .hbm, ⟨1, _⟩ => ⟨S8704x16128, .i8⟩
  | .hbm, ⟨2, _⟩ => ⟨S8704x504, .i16⟩
  | .hbm, ⟨3, _⟩ => ⟨S8704x16128, .i8⟩
  | .hbm, ⟨4, _⟩ => ⟨S8704x504, .i16⟩
  | .hbm, ⟨5, _⟩ => ⟨S128x16128, .bf16⟩
  | .hbm, ⟨6, _⟩ => ⟨S128x8704, .bf16⟩
  | .local _ .vmem, ⟨0, _⟩ => ⟨S128x16128, .bf16⟩
  | .local _ .vmem, ⟨1, _⟩ => ⟨S256x2304, .i8⟩
  | .local _ .vmem, ⟨2, _⟩ => ⟨S256x2304, .i8⟩
  | .local _ .vmem, ⟨3, _⟩ => ⟨S256x504, .i16⟩
  | .local _ .vmem, ⟨4, _⟩ => ⟨S256x504, .i16⟩
  | .local _ .vmem, ⟨5, _⟩ => ⟨S256x2304, .i8⟩
  | .local _ .vmem, ⟨6, _⟩ => ⟨S256x2304, .i8⟩
  | .local _ .vmem, ⟨7, _⟩ => ⟨S256x504, .i16⟩
  | .local _ .vmem, ⟨8, _⟩ => ⟨S256x504, .i16⟩
  | .local _ .vmem, ⟨9, _⟩ => ⟨S128x256, .bf16⟩
  | .local _ .vmem, ⟨10, _⟩ => ⟨S128x256, .bf16⟩
  | .local _ .vmem, ⟨11, _⟩ => ⟨S2x504x128, .f32⟩
  | .local _ .vmem, ⟨12, _⟩ => ⟨S2x504x128, .f32⟩
  | .local _ .vmem, ⟨13, _⟩ => ⟨S128x256, .f32⟩
  | .local _ .vmem, ⟨14, _⟩ => ⟨S128x256, .f32⟩
  | _, _ => ⟨S128x1x16128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨2, ![34, 7], ![false, false]⟩

def k0_off1 (i : grid0.Coords) (c0_i32_4 : BitVec 32) : Fin 2 → Nat :=
  let c0_5 : Index := 0#32
  let arg1 : BitVec 32 := BitVec.ofNat 32 (i 1).val
  let c9_i32 : BitVec 32 := 9#32
  let v6 : BitVec 32 := Scalar.muli arg1 c9_i32
  let c256_i32 : BitVec 32 := 256#32
  let v7 : BitVec 32 := Scalar.muli v6 c256_i32
  let v8 : BitVec 32 := Scalar.addi v7 c0_i32_4
  let v9 : Index := Scalar.indexCast v8
  ![0, v9.toNat]
def k0_off2 (i : grid0.Coords) (c0_i32_6 : BitVec 32) (c0_i32_9 : BitVec 32) : Fin 3 → Nat :=
  let c0_10 : Index := 0#32
  let arg1 : BitVec 32 := BitVec.ofNat 32 (i 1).val
  let c72_i32 : BitVec 32 := 72#32
  let v3 : BitVec 32 := Scalar.muli arg1 c72_i32
  let v12 : BitVec 32 := Scalar.addi v3 c0_i32_6
  let v27 : BitVec 32 := Scalar.addi v12 c0_i32_9
  let v28 : Index := Scalar.indexCast v27
  let c0_11 : Index := 0#32
  ![0, v28.toNat, 0]
def k0_off3 (i : grid0.Coords) (c0_i32_6 : BitVec 32) (c0_i32_26 : BitVec 32) : Fin 3 → Nat :=
  let c1 : Index := 1#32
  let arg1 : BitVec 32 := BitVec.ofNat 32 (i 1).val
  let c72_i32 : BitVec 32 := 72#32
  let v3 : BitVec 32 := Scalar.muli arg1 c72_i32
  let v12 : BitVec 32 := Scalar.addi v3 c0_i32_6
  let v92 : BitVec 32 := Scalar.addi v12 c0_i32_26
  let v93 : Index := Scalar.indexCast v92
  let c0_27 : Index := 0#32
  ![1, v93.toNat, 0]
def k0_cond2 (i : grid0.Coords) : BitVec 1 :=
  let arg1 : BitVec 32 := BitVec.ofNat 32 (i 1).val
  let c6_i32_972 : BitVec 32 := 6#32
  let v2721 : BitVec 1 := Scalar.cmpi .eq arg1 c6_i32_972
  let v2722 : BitVec 32 := Scalar.extui v2721
  let c0_i32_973 : BitVec 32 := 0#32
  let v2723 : BitVec 1 := Scalar.cmpi .ne v2722 c0_i32_973
  v2723

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x16128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S256x2304 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x504 .i16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2304 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x504 .i16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== KernelIdeal.lean ====
variable {F : FTy → Type} [FloatOps F]
-- ==== ReferenceIdeal.lean ====
abbrev S128x1x16128 : Shape := ⟨3, ![128, 1, 16128]⟩
abbrev S8704x16128 : Shape := ⟨2, ![8704, 16128]⟩
abbrev S8704x504 : Shape := ⟨2, ![8704, 504]⟩
abbrev S8704x504x32 : Shape := ⟨3, ![8704, 504, 32]⟩
abbrev S_ : Shape := ⟨0, ![]⟩
abbrev S8704x504x1 : Shape := ⟨3, ![8704, 504, 1]⟩
abbrev S128x1x8704 : Shape := ⟨3, ![128, 1, 8704]⟩
abbrev S128x8704 : Shape := ⟨2, ![128, 8704]⟩

abbrev nBuf : Space → Nat
  | .hbm => 111
  | .vmem => 0
  | .smem => 0
  | _ => 0

abbrev bufTy : (tb : Table) → Fin (tcTables nBuf tb) → BufTy
  | .hbm, ⟨0, _⟩ => ⟨S128x1x16128, .bf16⟩
  | .hbm, ⟨1, _⟩ => ⟨S8704x16128, .i8⟩
  | .hbm, ⟨2, _⟩ => ⟨S8704x504, .i16⟩
  | .hbm, ⟨3, _⟩ => ⟨S8704x16128, .i8⟩
  | .hbm, ⟨4, _⟩ => ⟨S8704x504, .i16⟩
  | .hbm, ⟨5, _⟩ => ⟨S8704x16128, .i32⟩
  | .hbm, ⟨6, _⟩ => ⟨S8704x16128, .f32⟩
  | .hbm, ⟨7, _⟩ => ⟨S8704x504x32, .f32⟩
  | .hbm, ⟨8, _⟩ => ⟨S8704x504, .i32⟩
  | .hbm, ⟨9, _⟩ => ⟨S_, .i32⟩
  | .hbm, ⟨10, _⟩ => ⟨S8704x504, .i32⟩
  | .hbm, ⟨11, _⟩ => ⟨S8704x504, .i32⟩
  | .hbm, ⟨12, _⟩ => ⟨S_, .i32⟩
  | .hbm, ⟨13, _⟩ => ⟨S8704x504, .i32⟩
  | .hbm, ⟨14, _⟩ => ⟨S8704x504, .i32⟩
  | .hbm, ⟨15, _⟩ => ⟨S_, .i32⟩
  | .hbm, ⟨16, _⟩ => ⟨S8704x504, .i32⟩
  | .hbm, ⟨17, _⟩ => ⟨S8704x504, .i32⟩
  | .hbm, ⟨18, _⟩ => ⟨S_, .i32⟩
  | .hbm, ⟨19, _⟩ => ⟨S8704x504, .i32⟩
  | .hbm, ⟨20, _⟩ => ⟨S8704x504, .i32⟩
  | .hbm, ⟨21, _⟩ => ⟨S_, .i32⟩
  | .hbm, ⟨22, _⟩ => ⟨S8704x504, .i32⟩
  | .hbm, ⟨23, _⟩ => ⟨S8704x504, .i1⟩
  | .hbm, ⟨24, _⟩ => ⟨S8704x504, .f32⟩
  | .hbm, ⟨25, _⟩ => ⟨S_, .f32⟩
  | .hbm, ⟨26, _⟩ => ⟨S8704x504, .f32⟩
  | .hbm, ⟨27, _⟩ => ⟨S8704x504, .f32⟩
  | .hbm, ⟨28, _⟩ => ⟨S_, .i32⟩
  | .hbm, ⟨29, _⟩ => ⟨S8704x504, .i32⟩
  | .hbm, ⟨30, _⟩ => ⟨S8704x504, .i32⟩
  | .hbm, ⟨31, _⟩ => ⟨S8704x504, .f32⟩
  | .hbm, ⟨32, _⟩ => ⟨S_, .i32⟩
  | .hbm, ⟨33, _⟩ => ⟨S8704x504, .i32⟩
  | .hbm, ⟨34, _⟩ => ⟨S8704x504, .i32⟩
  | .hbm, ⟨35, _⟩ => ⟨S8704x504, .f32⟩
  | .hbm, ⟨36, _⟩ => ⟨S_, .f32⟩
  | .hbm, ⟨37, _⟩ => ⟨S8704x504, .f32⟩
  | .hbm, ⟨38, _⟩ => ⟨S8704x504, .f32⟩
  | .hbm, ⟨39, _⟩ => ⟨S8704x504, .f32⟩
  | .hbm, ⟨40, _⟩ => ⟨S8704x504, .f32⟩
  | .hbm, ⟨41, _⟩ => ⟨S_, .i32⟩
  | .hbm, ⟨42, _⟩ => ⟨S8704x504, .i32⟩
  | .hbm, ⟨43, _⟩ => ⟨S8704x504, .i1⟩
  | .hbm, ⟨44, _⟩ => ⟨S8704x504, .f32⟩
  | .hbm, ⟨45, _⟩ => ⟨S8704x504, .f32⟩
  | .hbm, ⟨46, _⟩ => ⟨S8704x504x1, .f32⟩
  | .hbm, ⟨47, _⟩ => ⟨S8704x504x32, .f32⟩
  | .hbm, ⟨48, _⟩ => ⟨S8704x504x32, .f32⟩
  | .hbm, ⟨49, _⟩ => ⟨S8704x504x32, .bf16⟩
  | .hbm, ⟨50, _⟩ => ⟨S8704x16128, .bf16⟩
  | .hbm, ⟨51, _⟩ => ⟨S128x1x8704, .f32⟩
  | .hbm, ⟨52, _⟩ => ⟨S8704x16128, .i32⟩
  | .hbm, ⟨53, _⟩ => ⟨S8704x16128, .f32⟩
  | .hbm, ⟨54, _⟩ => ⟨S8704x504x32, .f32⟩
  | .hbm, ⟨55, _⟩ => ⟨S8704x504, .i32⟩
  | .hbm, ⟨56, _⟩ => ⟨S_, .i32⟩
  | .hbm, ⟨57, _⟩ => ⟨S8704x504, .i32⟩
  | .hbm, ⟨58, _⟩ => ⟨S8704x504, .i32⟩
  | .hbm, ⟨59, _⟩ => ⟨S_, .i32⟩
  | .hbm, ⟨60, _⟩ => ⟨S8704x504, .i32⟩
  | .hbm, ⟨61, _⟩ => ⟨S8704x504, .i32⟩
  | .hbm, ⟨62, _⟩ => ⟨S_, .i32⟩
  | .hbm, ⟨63, _⟩ => ⟨S8704x504, .i32⟩
  | .hbm, ⟨64, _⟩ => ⟨S8704x504, .i32⟩
  | .hbm, ⟨65, _⟩ => ⟨S_, .i32⟩
  | .hbm, ⟨66, _⟩ => ⟨S8704x504, .i32⟩
  | .hbm, ⟨67, _⟩ => ⟨S8704x504, .i32⟩
  | .hbm, ⟨68, _⟩ => ⟨S_, .i32⟩
  | .hbm, ⟨69, _⟩ => ⟨S8704x504, .i32⟩
  | .hbm, ⟨70, _⟩ => ⟨S8704x504, .i1⟩
  | .hbm, ⟨71, _⟩ => ⟨S8704x504, .f32⟩
  | .hbm, ⟨72, _⟩ => ⟨S_, .f32⟩
  | .hbm, ⟨73, _⟩ => ⟨S8704x504, .f32⟩
  | .hbm, ⟨74, _⟩ => ⟨S8704x504, .f32⟩
  | .hbm, ⟨75, _⟩ => ⟨S_, .i32⟩
  | .hbm, ⟨76, _⟩ => ⟨S8704x504, .i32⟩
  | .hbm, ⟨77, _⟩ => ⟨S8704x504, .i32⟩
  | .hbm, ⟨78, _⟩ => ⟨S8704x504, .f32⟩
  | .hbm, ⟨79, _⟩ => ⟨S_, .i32⟩
  | .hbm, ⟨80, _⟩ => ⟨S8704x504, .i32⟩
  | .hbm, ⟨81, _⟩ => ⟨S8704x504, .i32⟩
  | .hbm, ⟨82, _⟩ => ⟨S8704x504, .f32⟩
  | .hbm, ⟨83, _⟩ => ⟨S_, .f32⟩
  | .hbm, ⟨84, _⟩ => ⟨S8704x504, .f32⟩
  | .hbm, ⟨85, _⟩ => ⟨S8704x504, .f32⟩
  | .hbm, ⟨86, _⟩ => ⟨S8704x504, .f32⟩
  | .hbm, ⟨87, _⟩ => ⟨S8704x504, .f32⟩
  | .hbm, ⟨88, _⟩ => ⟨S_, .i32⟩
  | .hbm, ⟨89, _⟩ => ⟨S8704x504, .i32⟩
  | .hbm, ⟨90, _⟩ => ⟨S8704x504, .i1⟩
  | .hbm, ⟨91, _⟩ => ⟨S8704x504, .f32⟩
  | .hbm, ⟨92, _⟩ => ⟨S8704x504, .f32⟩
  | .hbm, ⟨93, _⟩ => ⟨S8704x504x1, .f32⟩
  | .hbm, ⟨94, _⟩ => ⟨S8704x504x32, .f32⟩
  | .hbm, ⟨95, _⟩ => ⟨S8704x504x32, .f32⟩
  | .hbm, ⟨96, _⟩ => ⟨S8704x504x32, .bf16⟩
  | .hbm, ⟨97, _⟩ => ⟨S8704x16128, .bf16⟩
  | .hbm, ⟨98, _⟩ => ⟨S128x1x8704, .f32⟩
  | .hbm, ⟨99, _⟩ => ⟨S128x1x8704, .f32⟩
  | .hbm, ⟨100, _⟩ => ⟨S128x1x8704, .f32⟩
  | .hbm, ⟨101, _⟩ => ⟨S_, .f32⟩
  | .hbm, ⟨102, _⟩ => ⟨S128x1x8704, .f32⟩
  | .hbm, ⟨103, _⟩ => ⟨S128x1x8704, .f32⟩
  | .hbm, ⟨104, _⟩ => ⟨S_, .f32⟩
  | .hbm, ⟨105, _⟩ => ⟨S128x1x8704, .f32⟩
  | .hbm, ⟨106, _⟩ => ⟨S128x1x8704, .f32⟩
  | .hbm, ⟨107, _⟩ => ⟨S128x1x8704, .f32⟩
  | .hbm, ⟨108, _⟩ => ⟨S128x1x8704, .f32⟩
  | .hbm, ⟨109, _⟩ => ⟨S128x1x8704, .bf16⟩
  | .hbm, ⟨110, _⟩ => ⟨S128x8704, .bf16⟩
  | _, _ => ⟨S128x1x16128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_c_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_c_10 : Ref sig .tc := ⟨.hbm, 62, rfl⟩
abbrev main_v45 : Ref sig .tc := ⟨.hbm, 63, rfl⟩
abbrev main_v46 : Ref sig .tc := ⟨.hbm, 64, rfl⟩
abbrev main_c_11 : Ref sig .tc := ⟨.hbm, 65, rfl⟩
abbrev main_v47 : Ref sig .tc := ⟨.hbm, 66, rfl⟩
abbrev main_v48 : Ref sig .tc := ⟨.hbm, 67, rfl⟩
abbrev main_c_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_13 : Ref sig .tc := ⟨.hbm, 72, rfl⟩
abbrev main_v52 : Ref sig .tc := ⟨.hbm, 73, rfl⟩
abbrev main_v53 : Ref sig .tc := ⟨.hbm, 74, rfl⟩
abbrev main_c_14 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_15 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_16 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_17 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_call4_v0 : Ref sig .tc := ⟨.hbm, 99, rfl⟩
abbrev main_call4_v1 : Ref sig .tc := ⟨.hbm, 100, rfl⟩
abbrev main_call4_cst : Ref sig .tc := ⟨.hbm, 101, rfl⟩
abbrev main_call4_v2 : Ref sig .tc := ⟨.hbm, 102, rfl⟩
abbrev main_call4_v3 : Ref sig .tc := ⟨.hbm, 103, rfl⟩
abbrev main_call4_cst_0 : Ref sig .tc := ⟨.hbm, 104, rfl⟩
abbrev main_call4_v4 : Ref sig .tc := ⟨.hbm, 105, rfl⟩
abbrev main_call4_v5 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== Proof.Tile.lean ====
/-
  What one tile of the kernel's body computes, as vector expressions over any float values: the dequantised
  256x256 weight tile of a block of int8 codes and sixteen rows of scales, its product with a slice of the
  activations, and the nine products one grid point adds to an accumulator.
-/
module

public import proofs.«01_k».proof.Proof.Gen.KernelIdeal

@[expose] public section

noncomputable section

namespace Cert.KernelIdeal.Tile

open Cert.KernelIdeal Cert.KernelIdeal.Gen Idealize.ShloMosaic Idealize.ShloMosaic.TcCoe

variable {F : FTy → Type} [FloatOps F]

/-- The rows of scales one tile reads: for each parity of the output column and each of the eight blocks of 32
    rows, a row of 128 scales. -/
abbrev Rows (F : FTy → Type) [FloatOps F] := Fin 2 → Fin 8 → Vec F S1x1x128 .f32

/-- The int8 codes of a tile, transposed, as bf16: rows `2c` and `2c+1` hold column `c` of the even and of the odd
    rows of the tile. -/
def codes (q : Vec F S256x256 .i8) : FVec F S512x128 .bf16 :=
  sitofp .bf16 (bitcast S512x128 8 (bitcast S128x128 32 (transpose S256x128 [1, 0]
    (bitcast S128x256 16 (bitcast S64x256 32 q bitcasts_S256x256_w8_S64x256_w32) bitcasts_S64x256_w32_S128x256_w16)
    transposes_S128x256_p1_0_S256x128) bitcasts_S256x128_w16_S128x128_w32) bitcasts_S128x128_w32_S512x128_w8)

/-- A block of 32 rows of codes times its row of scales, rounded to bf16. -/
def blk (c : FVec F S32x128 .f32) (s : Vec F S1x1x128 .f32) : FVec F S32x128 .bf16 :=
  truncf .bf16 (mulf c (broadcastTo S32x128 (shapeCast S1x128 s shapeCasts_S1x1x128_S1x128) broadcasts_S1x128_S32x128))
    bitsLt_bf16_f32

/-- Eight blocks of 32 rows of codes, each times its row of scales, one below the other. -/
def half (c : FVec F S256x128 .f32) (s : Fin 8 → Vec F S1x1x128 .f32) : FVec F S256x128 .bf16 :=
  concatenate S256x128 0
    [⟨S32x128, blk (extractStridedSlice S32x128 ![0, 0] c slices_S256x128_o0_0_S32x128) (s 0)⟩,
     ⟨S32x128, blk (extractStridedSlice S32x128 ![32, 0] c slices_S256x128_o32_0_S32x128) (s 1)⟩,
     ⟨S32x128, blk (extractStridedSlice S32x128 ![64, 0] c slices_S256x128_o64_0_S32x128) (s 2)⟩,
     ⟨S32x128, blk (extractStridedSlice S32x128 ![96, 0] c slices_S256x128_o96_0_S32x128) (s 3)⟩,
     ⟨S32x128, blk (extractStridedSlice S32x128 ![128, 0] c slices_S256x128_o128_0_S32x128) (s 4)⟩,
     ⟨S32x128, blk (extractStridedSlice S32x128 ![160, 0] c slices_S256x128_o160_0_S32x128) (s 5)⟩,
     ⟨S32x128, blk (extractStridedSlice S32x128 ![192, 0] c slices_S256x128_o192_0_S32x128) (s 6)⟩,
     ⟨S32x128, blk (extractStridedSlice S32x128 ![224, 0] c slices_S256x128_o224_0_S32x128) (s 7)⟩]
    concatenates_S32x128_S32x128_S32x128_S32x128_S32x128_S32x128_S32x128_S32x128_S256x128_d0

/-- The dequantised weight tile: the even output rows' columns, then the odd ones'. -/
def deq (q : Vec F S256x256 .i8) (s : Rows F) : FVec F S256x256 .bf16 :=
  concatenate S256x256 1
    [⟨S256x128, half (extf .f32 (rowsOfParity 0 S256x128 (codes q) bitcasts_S512x128_w16_S256x128_w32) bitsLt_bf16_f32) (s 0)⟩,
     ⟨S256x128, half (extf .f32 (rowsOfParity 1 S256x128 (codes q) bitcasts_S512x128_w16_S256x128_w32) bitsLt_bf16_f32) (s 1)⟩]
    concatenates_S256x128_S256x128_S256x256_d1

/-- An accumulator plus one slice of activations times one dequantised tile. -/
def tileDot (acc : FVec F S128x256 .f32) (x : Vec F S128x256 .bf16) (q : Vec F S256x256 .i8) (s : Rows F) : FVec F S128x256 .f32 :=
  addf acc (matmul dot_S128x256_S256x256_S128x256_1_0_0_1_n_n none (shapeCast S128x256 x shapeCasts_S128x256_S128x256)
    (deq q s) (constant S128x256 .f32 0x00000000#32))

/-- An accumulator after the nine tiles of a grid point. -/
def tiles (acc : FVec F S128x256 .f32) (x : Fin 9 → Vec F S128x256 .bf16) (q : Fin 9 → Vec F S256x256 .i8) (s : Fin 9 → Rows F) : FVec F S128x256 .f32 :=
  tileDot (tileDot (tileDot (tileDot (tileDot (tileDot (tileDot (tileDot (tileDot acc (x 0) (q 0) (s 0)) (x 1) (q 1) (s 1))
    (x 2) (q 2) (s 2)) (x 3) (q 3) (s 3)) (x 4) (q 4) (s 4)) (x 5) (q 5) (s 5)) (x 6) (q 6) (s 6)) (x 7) (q 7) (s 7)) (x 8) (q 8) (s 8)

/-- The accumulator a grid point leaves: what it found, plus its nine products. -/
def point (acc : FVec F S128x256 .f32) (x : Fin 9 → Vec F S128x256 .bf16) (q : Fin 9 → Vec F S256x256 .i8) (s : Fin 9 → Rows F) : FVec F S128x256 .f32 :=
  shapeCast S128x256 (tiles acc x q s) shapeCasts_S128x256_S128x256

/-- The accumulators' first contents: zero. -/
def zeros : FVec F S128x256 .f32 :=
  shapeCast S128x256 (broadcast S128x256 (Scalar.ofBits .f32 0x00000000#32)) shapeCasts_S128x256_S128x256

/-- The scales of a block of output rows, two rows' 16-bit patterns to a word, one word column per block of 32. -/
def words (d : Vec F S256x504 .i16) : IVec S504x128 32 :=
  transpose S504x128 [1, 0] (bitcast S128x504 32 d bitcasts_S256x504_w16_S128x504_w32) transposes_S128x504_p1_0_S504x128

/-- The f32 whose bits are those of the pattern in a word's upper half, with the exponent moved to f32's bias. -/
def magBits (w : IVec S504x128 32) : FVec F S504x128 .f32 :=
  bitcastToFloat .f32 (addi (shrui (andi w (broadcast S504x128 2147418112#32)) (broadcast S504x128 3#32)) (broadcast S504x128 939524096#32))

/-- The pattern's magnitude: a subnormal pattern read as above is one binade too low, and the minimum corrects it. -/
def mag (w : IVec S504x128 32) : FVec F S504x128 .f32 :=
  addf (magBits w) (minimumf (subf (magBits w) (broadcast S504x128 (Scalar.ofBits .f32 0x38800000#32)))
    (broadcast S504x128 (Scalar.ofBits .f32 0x00000000#32)))

/-- The signed value of the pattern in a word's upper half. -/
def decode (w : IVec S504x128 32) : FVec F S504x128 .f32 :=
  select (cmpi .ne (andi w (broadcast S504x128 2147483648#32)) (broadcast S504x128 0#32))
    (subf (broadcast S504x128 (Scalar.ofBits .f32 0x00000000#32)) (mag w)) (mag w)

/-- The decoded scales of the even rows (the words' lower halves). -/
def evenScales (d : Vec F S256x504 .i16) : FVec F S1x504x128 .f32 :=
  shapeCast S1x504x128 (decode (shli (words d) (broadcast S504x128 16#32))) shapeCasts_S504x128_S1x504x128

/-- The decoded scales of the odd rows (the words' upper halves). -/
def oddScales (d : Vec F S256x504 .i16) : FVec F S1x504x128 .f32 :=
  shapeCast S1x504x128 (decode (words d)) shapeCasts_S504x128_S1x504x128

/-- The lane number. -/
def lane : IVec S128x128 32 := iota .tc S128x128 32 [1] iota_S128x128_d1_w32

/-- Half the lane number, rounded down. -/
def laneHalf : IVec S128x128 32 :=
  select
    (andi
      (cmpi .ne
        (subi (extui 32 (cmpi .sgt lane (broadcast S128x128 0#32)) natLt_1_32) (extui 32 (cmpi .slt lane (broadcast S128x128 0#32)) natLt_1_32))
        (broadcast S128x128 (Scalar.subi (Scalar.extui (Scalar.cmpi .sgt 2#32 0#32)) (Scalar.extui (Scalar.cmpi .slt 2#32 0#32)))))
      (cmpi .ne (remsi lane (broadcast S128x128 2#32)) (broadcast S128x128 0#32)))
    (subi (divsi lane (broadcast S128x128 2#32)) (broadcast S128x128 1#32))
    (divsi lane (broadcast S128x128 2#32))

/-- The lane an output lane reads, for the first (`h = 0`) or the second (`h = 64`) half of the block. -/
def laneIdx (h : BitVec 32) : IVec S128x128 32 :=
  shapeCast S128x128 (shapeCast S128x128x1
    (select (cmpi .slt (addi laneHalf (broadcast S128x128 h)) (broadcast S128x128 0#32))
      (addi (addi laneHalf (broadcast S128x128 h)) (broadcast S128x128 128#32)) (addi laneHalf (broadcast S128x128 h)))
    shapeCasts_S128x128_S128x128x1) shapeCasts_S128x128x1_S128x128

/-- The divisor two, guarded against zero. -/
def two : BitVec 32 := Scalar.select (Scalar.cmpi .eq 2#32 0#32) 1#32 2#32

/-- Whether the lane number is even. -/
def laneEven : IVec S128x128 1 :=
  cmpi .eq
    (select
      (andi
        (xori (cmpi .slt (remsi lane (broadcast S128x128 two)) (broadcast S128x128 0#32))
          (broadcastTo S128x128 (broadcast S128x128 (Scalar.cmpi .slt two 0#32)) broadcasts_S128x128_S128x128))
        (cmpi .ne (remsi lane (broadcast S128x128 two)) (broadcast S128x128 0#32)))
      (addi (remsi lane (broadcast S128x128 two)) (broadcast S128x128 two))
      (remsi lane (broadcast S128x128 two)))
    (broadcast S128x128 0#32)

/-- The gated product `g * sigmoid g * u`. -/
def gated (g u : FVec F S128x256 .f32) : FVec F S128x256 .f32 := mulf (mulf g (logistic g)) u

/-- Half of the output block: its even columns from the left half of the product, its odd columns from the right. -/
def weave (h : BitVec 32) (y : FVec F S128x256 .f32) : FVec F S128x128 .bf16 :=
  truncf .bf16 (select laneEven (dynamicGather 1 (extractStridedSlice S128x128 ![0, 0] y slices_S128x256_o0_0_S128x128) (laneIdx h))
    (dynamicGather 1 (extractStridedSlice S128x128 ![0, 128] y slices_S128x256_o0_128_S128x128) (laneIdx h))) bitsLt_bf16_f32

end Cert.KernelIdeal.Tile

end
-- ==== Proof.Step.lean ====
/-
  What one grid point leaves in the accumulators, the scale tables and the output block, as the tile
  expressions of `Tile`, over any float values.
-/
module

public import proofs.«01_k».proof.Proof.Gen.KernelIdeal.Value
public import proofs.«01_k».proof.Proof.Tile
public import Idealize.ShloMosaic.Lib.Pipeline.ValueKit

@[expose] public section

set_option maxRecDepth 16384

noncomputable section

namespace Cert.KernelIdeal.Step

open Cert.KernelIdeal Cert.KernelIdeal.Gen Idealize.ShloMosaic Idealize.ShloMosaic.TcCoe Idealize.ShloMosaic.Tactic Idealize.SL.Sem

variable {F : FTy → Type} [FloatOps F]

/-- The zero offset, axis by axis. -/
theorem hz : (![0, 0] : Fin 2 → Nat) = fun _ => 0 := funext fun a => by fin_cases a <;> rfl

/-- The columns of code tile `j` lie inside the block of codes. -/
theorem inbQ (j : Fin 9) (a : Fin 2) : (![0, 256 * j.val] : Fin 2 → Nat) a + S256x256.size a ≤ S256x2304.size a := by
  revert j a; decide

/-- The activations of tile `j`. -/
def ldX (i : grid0.Coords) (x : Vec F S128x16128 .bf16) (j : Fin 9) : Vec F S128x256 .bf16 :=
  View.ld x (Rect.unit (s := S128x16128) (k0_off1 i (BitVec.ofNat 32 (256 * j.val))) S128x256.size (k0_off1_inb i j))

/-- The codes of tile `j`. -/
def ldQ (q : Vec F S256x2304 .i8) (j : Fin 9) : Vec F S256x256 .i8 :=
  View.ld q (Rect.unit (s := S256x2304) ![0, 256 * j.val] S256x256.size (inbQ j))

/-- The rows of the scale table that tile `j` reads. -/
def ldS (i : grid0.Coords) (s : Vec F S2x504x128 .f32) (j : Fin 9) : Tile.Rows F := fun h b =>
  match h with
  | ⟨0, _⟩ => View.ld s (Rect.unit (s := S2x504x128) (k0_off2 i (BitVec.ofNat 32 (8 * j.val)) (BitVec.ofNat 32 b.val)) S1x1x128.size (k0_off2_inb i j b))
  | ⟨1, _⟩ => View.ld s (Rect.unit (s := S2x504x128) (k0_off3 i (BitVec.ofNat 32 (8 * j.val)) (BitVec.ofNat 32 b.val)) S1x1x128.size (k0_off3_inb i j b))

/-- The scale table of a block of scale patterns: the even rows' scales, then the odd rows'. -/
def table (d : Vec F S256x504 .i16) : Vec F S2x504x128 .f32 :=
  View.canon (Val := Elt F)
    [⟨Rect.unit (s := S2x504x128) ![1, 0, 0] S1x504x128.size inb_S2x504x128_S1x504x128_1_0_0, Tile.oddScales d⟩,
     ⟨Rect.unit (s := S2x504x128) ![0, 0, 0] S1x504x128.size inb_S2x504x128_S1x504x128_0_0_0, Tile.evenScales d⟩]

/-- The output block stored for a gated product. -/
def block (y : FVec F S128x256 .f32) : Vec F S128x256 .bf16 :=
  View.canon (Val := Elt F)
    [⟨Rect.unit (s := S128x256) ![0, 128] S128x128.size inb_S128x256_S128x128_0_128, Tile.weave 64#32 y⟩,
     ⟨Rect.unit (s := S128x256) ![0, 0] S128x128.size inb_S128x256_S128x128_0_0, Tile.weave 0#32 y⟩]

/-- The two stores of the gate's scales make the table. -/
theorem table_gate (d : Vec F S256x504 .i16) :
    View.canon (Val := Elt F)
      [⟨Rect.unit (s := S2x504x128) ![1, 0, 0] S1x504x128.size inb_S2x504x128_S1x504x128_1_0_0, k0_pay4 (k0_pay1 d) (k0_pay3 d) 2147483648#32⟩,
       ⟨Rect.unit (s := S2x504x128) ![0, 0, 0] S1x504x128.size inb_S2x504x128_S1x504x128_0_0_0, k0_pay2 d⟩] = table d := rfl

/-- The two stores of the up scales make the table. -/
theorem table_up (d : Vec F S256x504 .i16) :
    View.canon (Val := Elt F)
      [⟨Rect.unit (s := S2x504x128) ![1, 0, 0] S1x504x128.size inb_S2x504x128_S1x504x128_1_0_0, k0_pay19 (k0_pay5 d) k0_pay7⟩,
       ⟨Rect.unit (s := S2x504x128) ![0, 0, 0] S1x504x128.size inb_S2x504x128_S1x504x128_0_0_0, k0_pay6 d⟩] = table d := rfl

variable (c : Dev nD) (i : grid0.Coords) (arg2 : Memref sig .tc .vmem S128x16128 .bf16) (harg2 : arg2.IsWhole) (arg3 : Memref sig .tc .vmem S256x2304 .i8) (harg3 : arg3.IsWhole) (arg4 : Memref sig .tc .vmem S256x504 .i16) (harg4 : arg4.IsWhole) (arg5 : Memref sig .tc .vmem S256x2304 .i8) (harg5 : arg5.IsWhole) (arg6 : Memref sig .tc .vmem S256x504 .i16) (harg6 : arg6.IsWhole) (arg7 : Memref sig .tc .vmem S128x256 .bf16) (harg7 : arg7.IsWhole) (arg8 : Memref sig .tc .vmem S2x504x128 .f32) (harg8 : arg8.IsWhole) (arg9 : Memref sig .tc .vmem S2x504x128 .f32) (harg9 : arg9.IsWhole) (arg10 : Memref sig .tc .vmem S128x256 .f32) (harg10 : arg10.IsWhole) (arg11 : Memref sig .tc .vmem S128x256 .f32) (harg11 : arg11.IsWhole)
  (x0 : Vec F S128x16128 .bf16) (x1 : Vec F S256x2304 .i8) (x2 : Vec F S256x504 .i16) (x3 : Vec F S256x2304 .i8) (x4 : Vec F S256x504 .i16) (xs0 : Vec F S2x504x128 .f32) (xs1 : Vec F S2x504x128 .f32) (xs2 : Vec F S128x256 .f32) (xs3 : Vec F S128x256 .f32)

section CaseB

variable (hc0 : ¬cond0_0 i) (hc1 : ¬cond0_1 i)

/-- Case B's gate accumulator: what the point found in it plus the point's nine products. -/
theorem gate_B :
    sout0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = Tile.point xs2 (ldX i x0) (ldQ x1) (ldS i xs0) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_unit_zero hz]
  simp only [View.readAt_eq_ld, harg2.read_unread, harg3.read_unread, harg5.read_unread, harg8.read_unread, harg9.read_unread, harg10.read_unread, harg11.read_unread]
  try rw [View.ld_unit_zero (S := S128x256) hz]
  rfl

/-- Case B's up accumulator: what the point found in it plus the point's nine products. -/
theorem up_B :
    sout0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = Tile.point xs3 (ldX i x0) (ldQ x3) (ldS i xs1) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  rw [View.canon_unit_zero hz]
  simp only [View.readAt_eq_ld, harg2.read_unread, harg3.read_unread, harg5.read_unread, harg8.read_unread, harg9.read_unread, harg10.read_unread, harg11.read_unread]
  try rw [View.ld_unit_zero (S := S128x256) hz]
  rfl

end CaseB

section CaseC

variable (hc0 : ¬cond0_0 i) (hc1 : cond0_1 i)

/-- Case C's gate accumulator: what the point found in it plus the point's nine products. -/
theorem gate_C :
    sout0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = Tile.point xs2 (ldX i x0) (ldQ x1) (ldS i xs0) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_unit_zero hz]
  simp only [View.readAt_eq_ld, harg2.read_unread, harg3.read_unread, harg5.read_unread, harg8.read_unread, harg9.read_unread, harg10.read_unread, harg11.read_unread]
  try rw [View.ld_unit_zero (S := S128x256) hz]
  rfl

/-- Case C's up accumulator: what the point found in it plus the point's nine products. -/
theorem up_C :
    sout0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = Tile.point xs3 (ldX i x0) (ldQ x3) (ldS i xs1) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  rw [View.canon_unit_zero hz]
  simp only [View.readAt_eq_ld, harg2.read_unread, harg3.read_unread, harg5.read_unread, harg8.read_unread, harg9.read_unread, harg10.read_unread, harg11.read_unread]
  try rw [View.ld_unit_zero (S := S128x256) hz]
  rfl

/-- Case C's output block: the even and odd columns of the gated product of the two accumulators, woven together. -/
theorem out_C :
    out0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3 = block (Tile.gated (Tile.point xs2 (ldX i x0) (ldQ x1) (ldS i xs0)) (Tile.point xs3 (ldX i x0) (ldQ x3) (ldS i xs1))) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  simp (disch := decide) only [View.readAt_eq_ld, harg2.read_unread, harg3.read_unread, harg5.read_unread, harg8.read_unread, harg9.read_unread, harg10.read_unread, harg11.read_unread,
    View.readCov_unit_lit', View.ld_unit_lit']
  rfl

end CaseC

section CaseA

variable (hc0 : cond0_0 i) (hc1 : ¬cond0_1 i)

/-- Case A's gate scales: the table of the point's block of scale patterns. -/
theorem table_gate_A : sout0_A_0 c i arg2 harg2 arg3 harg3 arg4 harg4 arg5 harg5 arg6 harg6 arg7 harg7 arg8 harg8 arg9 harg9 arg10 harg10 arg11 harg11 hc0 hc1 x0 x1 x2 x3 x4 = table x2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp (disch := decide) only [View.readAt_eq_ld, harg4.read_unread, View.ld_unit_lit']
  rfl

/-- Case A's up scales: the table of the point's block of scale patterns. -/
theorem table_up_A : sout0_A_1 c i arg2 harg2 arg3 harg3 arg4 harg4 arg5 harg5 arg6 harg6 arg7 harg7 arg8 harg8 arg9 harg9 arg10 harg10 arg11 harg11 hc0 hc1 x0 x1 x2 x3 x4 = table x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  simp (disch := decide) only [View.readAt_eq_ld, harg6.read_unread, View.ld_unit_lit']
  rfl

/-- Case A's gate accumulator: zero plus the point's nine products. -/
theorem gate_A : sout0_A_2 c i arg2 harg2 arg3 harg3 arg4 harg4 arg5 harg5 arg6 harg6 arg7 harg7 arg8 harg8 arg9 harg9 arg10 harg10 arg11 harg11 hc0 hc1 x0 x1 x2 x3 x4 = Tile.point Tile.zeros (ldX i x0) (ldQ x1) (ldS i (table x2)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero hz]
  simp (disch := decide) only [View.readAt_eq_ld, harg2.read_unread, harg3.read_unread, harg4.read_unread, View.read_writes_junk_eq_canon,
    View.readCov_unit_lit', View.ld_unit_lit']
  rw [table_gate x2, show (k0_pay20 : FVec F S128x256 .f32) = Tile.zeros from rfl]
  generalize table x2 = T, (Tile.zeros : FVec F S128x256 .f32) = z
  rfl

/-- Case A's up accumulator: zero plus the point's nine products. -/
theorem up_A : sout0_A_3 c i arg2 harg2 arg3 harg3 arg4 harg4 arg5 harg5 arg6 harg6 arg7 harg7 arg8 harg8 arg9 harg9 arg10 harg10 arg11 harg11 hc0 hc1 x0 x1 x2 x3 x4 = Tile.point Tile.zeros (ldX i x0) (ldQ x3) (ldS i (table x4)) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero hz]
  simp (disch := decide) only [View.readAt_eq_ld, harg2.read_unread, harg5.read_unread, harg6.read_unread, View.read_writes_junk_eq_canon,
    View.readCov_unit_lit', View.ld_unit_lit']
  rw [table_up x4, show (k0_pay21 : FVec F S128x256 .f32) = Tile.zeros from rfl]
  generalize table x4 = T, (Tile.zeros : FVec F S128x256 .f32) = z
  rfl

end CaseA

end Cert.KernelIdeal.Step

end
-- ==== Proof.Codes.lean ====
/-
  What the dequantised tile, the nine products of a grid point and the woven block hold, element by element, over
  the extended reals.
-/
module

public import proofs.«01_k».proof.Proof.Tile
public import Idealize.ShloMosaic.Lib.BitcastPair
public import Idealize.ShloMosaic.Lib.Pointwise

@[expose] public section

set_option maxRecDepth 16384

noncomputable section

namespace Cert.KernelIdeal.Tile

open Cert.KernelIdeal Cert.KernelIdeal.Gen Idealize.ShloMosaic Idealize.ShloMosaic.TcCoe

/-- A bit of a matrix read at another element width: bit `q` of row `a` is bit `(a * w + q) % v` of source row
    `(a * w + q) / v` of the same column. -/
theorem bitcast_bit {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v)
    (p : Fin R) (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The int8 behind row `m`, column `r` of the transposed codes: column `m / 2` of row `2r + m % 2`. -/
theorem code_bits (q : IVec S256x256 8) (m : Fin 512) (r : Fin 128) :
    bitcast S512x128 8 (bitcast S128x128 32 (transpose S256x128 [1, 0]
      (bitcast S128x256 16 (bitcast S64x256 32 q bitcasts_S256x256_w8_S64x256_w32) bitcasts_S64x256_w32_S128x256_w16)
      transposes_S128x256_p1_0_S256x128) bitcasts_S256x128_w16_S128x128_w32) bitcasts_S128x128_w32_S512x128_w8 (ix2 m r)
      = q (ix2 ⟨2 * r.val + m.val % 2, by omega⟩ ⟨m.val / 2, by omega⟩) := by
  apply BitVec.eq_of_getLsbD_eq
  intro i hi
  rw [bitcast_bit _ _ m r i hi (by decide) ⟨m.val / 4, by omega⟩ (by show m.val / 4 = _; omega),
    bitcast_bit _ _ _ r _ (by omega) (by decide) ⟨m.val / 2, by omega⟩ (by show m.val / 2 = (m.val / 4 * 32 + _) / 16; omega)]
  pointwise
  rw [bitcast_bit _ _ r _ _ (by omega) (by decide) ⟨r.val / 2, by omega⟩ (by show r.val / 2 = _; omega),
    bitcast_bit _ _ _ _ _ (by omega) (by decide) ⟨2 * r.val + m.val % 2, by omega⟩ (by show 2 * r.val + m.val % 2 = (r.val / 2 * 32 + _) / 8; omega)]
  congr 1
  show (r.val / 2 * 32 + _) % 8 = _
  omega

/-- An int8 code as an extended real. -/
def val (b : BitVec 8) : EReal := ((b.toInt : ℝ) : EReal)

/-- The codes of the rows of parity `p`, at an index. -/
theorem codes_apply (q : Vec Ideal S256x256 .i8) (p : Fin 2) (c : Fin 256) (r : Fin 128) :
    rowsOfParity p S256x128 (codes (F := Ideal) q) bitcasts_S512x128_w16_S256x128_w32 (ix2 c r)
      = val (q (ix2 ⟨2 * r.val + p.val, by omega⟩ c)) := by
  have h := code_bits q ⟨2 * c.val + p.val, by omega⟩ r
  unfold codes
  pointwise
  rw [h, show FloatOps.sitofp (F := Ideal) .bf16 = val from rfl]
  congr 2
  exact congrArg₂ ix2 (Fin.ext (by show 2 * r.val + (2 * c.val + p.val) % 2 = 2 * r.val + p.val; omega)) (Fin.ext (by show (2 * c.val + p.val) / 2 = c.val; omega))

/-- Eight blocks of 32 rows times their scales, at an index. -/
theorem half_apply (x : FVec Ideal S256x128 .f32) (s : Fin 8 → Vec Ideal S1x1x128 .f32) (c : Fin 256) (r : Fin 128) :
    half x s (ix2 c r) = x (ix2 c r) * s ⟨c.val / 32, by omega⟩ (ix3 0 0 r) := by
  have key (n : Fin 8) (e : Fin 256) (hn : n.val = c.val / 32) (he : e.val = c.val) :
      x (ix2 e r) * s n (ix3 0 0 r) = x (ix2 c r) * s ⟨c.val / 32, by omega⟩ (ix3 0 0 r) := by
    rw [show e = c from Fin.ext he, show (⟨c.val / 32, by omega⟩ : Fin 8) = n from Fin.ext hn.symm]
  pointwise [half, blk]
  split_ifs
  all_goals exact key _ _ (by simp <;> omega) (by simp <;> omega)

/-- The dequantised tile at an index. -/
theorem deq_apply (q : Vec Ideal S256x256 .i8) (s : Rows Ideal) (p : Fin 2) (c : Fin 256) (r : Fin 128) :
    deq q s (ix2 c ⟨128 * p.val + r.val, by omega⟩)
      = val (q (ix2 ⟨2 * r.val + p.val, by omega⟩ c)) * s p ⟨c.val / 32, by omega⟩ (ix3 0 0 r) := by
  have key (n : Fin 2) (e : Fin 128) (hn : n = p) (he : e.val = r.val) :
      half (extf .f32 (rowsOfParity n S256x128 (codes q) bitcasts_S512x128_w16_S256x128_w32) bitsLt_bf16_f32) (s n) (ix2 c e)
        = val (q (ix2 ⟨2 * r.val + p.val, by omega⟩ c)) * s p ⟨c.val / 32, by omega⟩ (ix3 0 0 r) := by
    obtain rfl := hn
    obtain rfl := Fin.ext he
    rw [half_apply, ← codes_apply]
    rfl
  pointwise [deq]
  by_cases h : 128 * p.val + r.val < 128
  · rw [dif_pos h]
    exact key 0 ⟨128 * p.val + r.val, h⟩ (Fin.ext (by show 0 = p.val; omega)) (by show 128 * p.val + r.val = r.val; omega)
  · rw [dif_neg h]
    exact key 1 ⟨128 * p.val + r.val - 128, by omega⟩ (Fin.ext (by show 1 = p.val; omega)) (by show 128 * p.val + r.val - 128 = r.val; omega)

/-- One product added to an accumulator, at an index. -/
theorem tileDot_apply (acc : FVec Ideal S128x256 .f32) (x : Vec Ideal S128x256 .bf16) (q : Vec Ideal S256x256 .i8) (s : Rows Ideal)
    (a : Fin 128) (l : Fin 256) :
    tileDot acc x q s (ix2 a l) = acc (ix2 a l) + ∑ c : Fin 256, x (ix2 a c) * deq q s (ix2 c l) := by
  pointwise [tileDot]

/-- A sum of nine terms, written out. -/
theorem sum_nine (f : Fin 9 → EReal) : ∑ j, f j = f 0 + f 1 + f 2 + f 3 + f 4 + f 5 + f 6 + f 7 + f 8 := by
  rw [Fin.sum_univ_castSucc, Fin.sum_univ_eight]; rfl

/-- The nine products of a grid point added to an accumulator, at an index. -/
theorem point_apply (acc : FVec Ideal S128x256 .f32) (x : Fin 9 → Vec Ideal S128x256 .bf16) (q : Fin 9 → Vec Ideal S256x256 .i8)
    (s : Fin 9 → Rows Ideal) (a : Fin 128) (l : Fin 256) :
    point acc x q s (ix2 a l) = acc (ix2 a l) + ∑ j : Fin 9, ∑ c : Fin 256, x j (ix2 a c) * deq (q j) (s j) (ix2 c l) := by
  unfold point
  pointwise
  unfold tiles
  simp only [tileDot_apply, sum_nine, add_assoc]

/-- The accumulators start at zero. -/
theorem zeros_apply (a : Fin 128) (l : Fin 256) : zeros (F := Ideal) (ix2 a l) = 0 := by
  unfold zeros
  pointwise

/-- The gated product at an index. -/
theorem gated_apply (g u : FVec Ideal S128x256 .f32) (i : S128x256.Idx) :
    gated g u i = g i * Ideal.logistic (g i) * u i := by
  pointwise [gated]

end Cert.KernelIdeal.Tile

end
-- ==== Proof.Scale.lean ====
/-
  The scales: what a 16-bit pattern stands for, and that the kernel's decoding of the upper half of a word gives it.
-/
module

public import proofs.«01_k».proof.Proof.Codes

@[expose] public section

set_option maxRecDepth 16384

noncomputable section

namespace Cert.KernelIdeal.Tile

open Cert.KernelIdeal Cert.KernelIdeal.Gen Idealize.ShloMosaic Idealize.ShloMosaic.TcCoe

/-- A scale pattern's exponent field. -/
def expo (b : BitVec 16) : Nat := b.toNat / 1024 % 32

/-- A scale pattern's fraction field. -/
def mant (b : BitVec 16) : Nat := b.toNat % 1024

/-- A scale pattern's magnitude: `m * 2^-24` at exponent zero, `(m + 1024) * 2^(e - 25)` otherwise. -/
def size (b : BitVec 16) : ℝ :=
  if expo b = 0 then (mant b : ℝ) * 2 ^ (-24 : ℤ) else ((mant b : ℝ) + 1024) * 2 ^ ((expo b : ℤ) - 25)

/-- The real number a scale pattern stands for. -/
def f16 (b : BitVec 16) : ℝ := if 2 ^ 15 ≤ b.toNat then -size b else size b

/-- A positive normal f32 pattern by its fields. -/
theorem ofBits_normal (W : BitVec 32) (E T : Nat) (hW : W.toNat = E * 2 ^ 23 + T) (hT : T < 2 ^ 23) (h1 : 0 < E) (h2 : E < 255) :
    Ideal.ofBits .f32 W = ((((2 ^ 23 : ℝ) + T) * 2 ^ ((E : ℤ) - 150) : ℝ) : EReal) := by
  have hs : W.extractLsb' 31 1 = 0#1 := by
    apply BitVec.eq_of_toNat_eq
    simp [BitVec.extractLsb'_toNat, Nat.shiftRight_eq_div_pow, hW]; omega
  have he : (W.extractLsb' 23 8).toNat = E := by
    simp [BitVec.extractLsb'_toNat, Nat.shiftRight_eq_div_pow, hW]; omega
  have hf : (W.extractLsb' 0 23).toNat = T := by
    simp [BitVec.extractLsb'_toNat, Nat.shiftRight_eq_div_pow, hW]; omega
  show Ideal.ieee 8 23 W = _
  unfold Ideal.ieee
  simp only [show 8 + 23 = 31 from rfl, hs, he, hf]
  rw [if_neg (by omega), if_neg (by omega)]
  congr 1
  rw [show (E : ℤ) - (2 ^ (8 - 1) - 1) - ((23 : ℕ) : ℤ) = (E : ℤ) - 150 by norm_num; omega]
  push_cast
  norm_num

/-- The magnitude word of a pattern over any lower half: its fields shifted into place, the exponent rebased. -/
theorem magWord (b lo : BitVec 16) :
    ((((b ++ lo) &&& 2147418112#32) >>> 3) + 939524096#32).toNat = (112 + expo b) * 2 ^ 23 + mant b * 2 ^ 13 := by
  have e : (b ++ lo) &&& 2147418112#32 = (b &&& 32767#16) ++ (0#16 : BitVec 16) := by
    rw [show (2147418112#32 : BitVec 32) = 32767#16 ++ 0#16 from rfl, BitVec.and_append]
    simp
  have n : ((b &&& 32767#16) ++ (0#16 : BitVec 16)).toNat = b.toNat % 2 ^ 15 * 2 ^ 16 := by
    rw [BitVec.toNat_append, BitVec.toNat_and, show (32767#16).toNat = 2 ^ 15 - 1 from rfl, Nat.and_two_pow_sub_one_eq_mod]
    simp [Nat.shiftLeft_eq]
  rw [e, BitVec.toNat_add, BitVec.toNat_ushiftRight, n, Nat.shiftRight_eq_div_pow]
  unfold expo mant
  show (_ + 939524096) % 2 ^ 32 = _
  omega

/-- The magnitude of one word at the reals. -/
def magOf (w : BitVec 32) : EReal :=
  Ideal.ofBits .f32 (((w &&& 2147418112#32) >>> 3) + 939524096#32)

/-- The word of the magnitude, entry by entry. -/
theorem magBits_apply (w : IVec S504x128 32) (i : S504x128.Idx) : magBits (F := Ideal) w i = magOf (w i) := by
  simp only [magBits, magOf]
  rfl

/-- A word's magnitude after the correction of subnormal patterns. -/
def fixOf (w : BitVec 32) : EReal := magOf w + min (magOf w - Ideal.ofBits .f32 947912704#32) (Ideal.ofBits .f32 0#32)

/-- The correction, at an index, for any magnitude and any two constants. -/
theorem fix_vec (M : FVec Ideal S504x128 .f32) (x y : Ideal .f32) (i : S504x128.Idx) :
    addf M (minimumf (subf M (broadcast S504x128 x)) (broadcast S504x128 y)) i = (M i + min (M i - x) y : EReal) := rfl

/-- A scalar constant of the ideal instance is the real of its word. -/
theorem ofBits_scalar (b : BitVec 32) : (Scalar.ofBits .f32 b : Ideal .f32) = Ideal.ofBits .f32 b := rfl

/-- The corrected magnitude, entry by entry. -/
theorem mag_apply (w : IVec S504x128 32) (i : S504x128.Idx) : mag (F := Ideal) w i = fixOf (w i) := by
  unfold mag fixOf
  rw [fix_vec, magBits_apply, ofBits_scalar, ofBits_scalar]

/-- The magnitude word read as an f32: two to the exponent, off by one binade for subnormal patterns. -/
theorem magOf_append (b lo : BitVec 16) :
    magOf (b ++ lo) = ((((mant b : ℝ) + 1024) * 2 ^ ((expo b : ℤ) - 25) : ℝ) : EReal) := by
  have hm : mant b < 1024 := Nat.mod_lt _ (by omega)
  have he : expo b < 32 := Nat.mod_lt _ (by omega)
  rw [magOf, ofBits_normal _ (112 + expo b) (mant b * 2 ^ 13) (magWord b lo) (by omega) (by omega) (by omega)]
  congr 1
  rw [show ((112 + expo b : ℕ) : ℤ) - 150 = ((expo b : ℤ) - 25) + (-13) by push_cast; ring, zpow_add₀ (by norm_num)]
  push_cast
  norm_num
  ring

/-- The smallest normal scale. -/
theorem ofBits_binade : Ideal.ofBits .f32 947912704#32 = (((2 : ℝ) ^ (-14 : ℤ) : ℝ) : EReal) := by
  rw [ofBits_normal _ 113 0 (by decide) (by omega) (by omega) (by omega)]
  congr 1
  norm_num

/-- The corrected magnitude of a word is its upper half's. -/
theorem fixOf_append (b lo : BitVec 16) : fixOf (b ++ lo) = (size b : EReal) := by
  have hm : mant b < 1024 := Nat.mod_lt _ (by omega)
  have hm' : (mant b : ℝ) < 1024 := by exact_mod_cast hm
  rw [fixOf, magOf_append, ofBits_binade, Ideal.ofBits_zero_f32, ← EReal.coe_sub, ← EReal.coe_zero, ← EReal.coe_strictMono.monotone.map_min,
    ← EReal.coe_add]
  congr 1
  unfold size
  by_cases he : expo b = 0
  · rw [if_pos he, he, min_eq_left]
    · norm_num
      ring
    · norm_num
      linarith
  · rw [if_neg he, min_eq_right, add_zero]
    have h1 : (2 : ℝ) ^ (-24 : ℤ) ≤ 2 ^ ((expo b : ℤ) - 25) := zpow_le_zpow_right₀ (by norm_num) (by omega)
    have h2 : (0 : ℝ) ≤ mant b := by positivity
    have h3 : (0 : ℝ) ≤ 2 ^ ((expo b : ℤ) - 25) := by positivity
    have h4 : (2 : ℝ) ^ (-14 : ℤ) = 1024 * 2 ^ (-24 : ℤ) := by norm_num
    rw [h4]
    nlinarith

/-- The sign bit of a word is its upper half's. -/
theorem sign_append (b lo : BitVec 16) : ((b ++ lo) &&& 2147483648#32 ≠ 0#32) ↔ 2 ^ 15 ≤ b.toNat := by
  have e : (b ++ lo) &&& 2147483648#32 = (b &&& BitVec.twoPow 16 15) ++ (0#16 : BitVec 16) := by
    rw [show (2147483648#32 : BitVec 32) = BitVec.twoPow 16 15 ++ 0#16 from rfl, BitVec.and_append]
    simp
  rw [e, BitVec.and_twoPow]
  have hb : b.getLsbD 15 = decide (2 ^ 15 ≤ b.toNat) := by
    exact (BitVec.msb_eq_getLsbD_last b).symm.trans (BitVec.msb_eq_decide b)
  rw [hb]
  by_cases h : 2 ^ 15 ≤ b.toNat
  · simp only [h, decide_true, if_true, iff_true]; decide
  · simp only [h, decide_false, iff_false]; decide

/-- The sign, at an index, for any magnitude and any zero. -/
theorem sign_vec (w : IVec S504x128 32) (M : FVec Ideal S504x128 .f32) (z : Ideal .f32) (i : S504x128.Idx) :
    select (cmpi .ne (andi w (broadcast S504x128 2147483648#32)) (broadcast S504x128 0#32))
      (subf (broadcast S504x128 z) M) M i
      = Scalar.select (BitVec.ofBool (((w i) &&& 2147483648#32) != 0#32)) (z - M i : EReal) (M i) := rfl

/-- The decoded scale, entry by entry: the corrected magnitude, negated where the sign bit is set. -/
theorem decode_eq (w : IVec S504x128 32) (i : S504x128.Idx) :
    decode (F := Ideal) w i =
      if (w i) &&& 2147483648#32 ≠ 0#32 then Ideal.ofBits .f32 0#32 - fixOf (w i) else fixOf (w i) := by
  unfold decode
  rw [sign_vec, mag_apply, ofBits_scalar]
  by_cases h0 : (w i) &&& 2147483648#32 = 0#32
  · rw [if_neg (not_not.mpr h0), show ((w i &&& 2147483648#32) != 0#32) = false from bne_eq_false_iff_eq.mpr h0]
    rfl
  · rw [if_pos h0, show ((w i &&& 2147483648#32) != 0#32) = true from bne_iff_ne.mpr h0]
    rfl

/-- Decoding a word gives the value of its upper half. -/
theorem decode_apply (w : IVec S504x128 32) (i : S504x128.Idx) (b lo : BitVec 16) (h : w i = b ++ lo) :
    decode (F := Ideal) w i = (f16 b : EReal) := by
  rw [decode_eq, h, fixOf_append, Ideal.ofBits_zero_f32]
  simp only [sign_append]
  unfold f16
  by_cases hs : 2 ^ 15 ≤ b.toNat
  · rw [if_pos hs, if_pos hs, zero_sub, EReal.coe_neg]
  · rw [if_neg hs, if_neg hs]

/-- Word `(b, r)` of the transposed scales: rows `2r+1` and `2r` of the block, the odd one on top. -/
theorem words_apply (d : Vec Ideal S256x504 .i16) (b : Fin 504) (r : Fin 128) :
    words (F := Ideal) d (ix2 b r) =
      (d (ix2 ⟨2 * r.val + 1, by omega⟩ b) : BitVec 16) ++ (d (ix2 ⟨2 * r.val, by omega⟩ b) : BitVec 16) := by
  apply BitVec.eq_of_getLsbD_eq
  intro q hq
  unfold words
  pointwise
  rw [BitVec.getLsbD_append]
  by_cases h : q < 16
  · rw [bitcast_bit _ _ _ _ q hq (by decide) ⟨2 * r.val, by omega⟩ (by show 2 * r.val = (r.val * 32 + q) / 16; omega), if_pos h]
    congr 1
    omega
  · rw [bitcast_bit _ _ _ _ q hq (by decide) ⟨2 * r.val + 1, by omega⟩ (by show 2 * r.val + 1 = (r.val * 32 + q) / 16; omega), if_neg h]
    congr 1
    omega

/-- The even rows' scales. -/
theorem evenScales_apply (d : Vec Ideal S256x504 .i16) (b : Fin 504) (r : Fin 128) :
    evenScales (F := Ideal) d (ix3 0 b r) = (f16 (d (ix2 ⟨2 * r.val, by omega⟩ b)) : EReal) := by
  have h : shli (words (F := Ideal) d) (broadcast S504x128 16#32) (ix2 b r)
      = (d (ix2 ⟨2 * r.val, by omega⟩ b) : BitVec 16) ++ (0#16 : BitVec 16) := by
    show IntOp.shli _ (words (F := Ideal) d (ix2 b r)) 16#32 = _
    rw [words_apply]
    generalize (d _ : BitVec 16) = u
    generalize (d _ : BitVec 16) = v
    show (u ++ v : BitVec 32) <<< 16 = _
    apply BitVec.eq_of_getLsbD_eq
    intro q hq
    rw [BitVec.getLsbD_shiftLeft, BitVec.getLsbD_append, BitVec.getLsbD_append]
    by_cases h : q < 16
    · simp [h]
    · simp [h, hq, show q - 16 < 16 by omega]
  have h' := decode_apply _ _ _ _ h
  unfold evenScales
  generalize decode (F := Ideal) (shli (words (F := Ideal) d) (broadcast S504x128 16#32)) = D at h' ⊢
  pointwise
  exact h'

/-- The odd rows' scales. -/
theorem oddScales_apply (d : Vec Ideal S256x504 .i16) (b : Fin 504) (r : Fin 128) :
    oddScales (F := Ideal) d (ix3 0 b r) = (f16 (d (ix2 ⟨2 * r.val + 1, by omega⟩ b)) : EReal) := by
  have h' := decode_apply _ _ _ _ (words_apply d b r)
  unfold oddScales
  generalize decode (F := Ideal) (words (F := Ideal) d) = D at h' ⊢
  pointwise
  exact h'

end Cert.KernelIdeal.Tile

end
-- ==== Proof.Layout.lean ====
/-
  The scale table, the stored output block and the loads of a tile, each read at an index.
-/
module

public import proofs.«01_k».proof.Proof.Step
public import proofs.«01_k».proof.Proof.Scale

@[expose] public section

set_option maxRecDepth 16384

noncomputable section

namespace Cert.KernelIdeal.Step

open Cert.KernelIdeal Cert.KernelIdeal.Gen Idealize.ShloMosaic Idealize.ShloMosaic.TcCoe

/-- An index left of a unit rectangle's offset on some axis is outside it. -/
theorem not_mem_unit {s : Shape} (off size : Fin s.rank → Nat) (inb : ∀ a, off a + size a ≤ s.size a) (y : s.Idx)
    (a : Fin s.rank) (h : (y a).val < off a) : y ∉ (Rect.unit (s := s) off size inb).set := by
  intro hm
  obtain ⟨x, rfl⟩ := (Rect.unit (s := s) off size inb).exists_idx_of_mem hm
  rw [Rect.idx_unit_val] at h
  omega

/-- The top one of the pieces, read at an index inside it. -/
theorem canon_at {s : Shape} {e : EltTy} (off size : Fin s.rank → Nat) (inb : ∀ a, off a + size a ≤ s.size a)
    (w : (Rect.unit (s := s) off size inb).shape.Idx → Elt Ideal e) (L : List (View.Piece (Elt Ideal) s e))
    (y : s.Idx) (x : (Rect.unit (s := s) off size inb).shape.Idx) (h : ∀ a, (y a).val = off a + (x a).val) :
    View.canon (Val := Elt Ideal) (⟨Rect.unit (s := s) off size inb, w⟩ :: L) y = w x := by
  rw [show y = (Rect.unit (s := s) off size inb).emb x from
    funext fun a => Fin.ext ((h a).trans (ValueKit.rect_emb_unit_val off size inb x a).symm)]
  exact View.canon_cons_emb _ w L x

/-- The lower one of two pieces, read at an index left of the upper one. -/
theorem canon_below {s : Shape} {e : EltTy} (off' size' : Fin s.rank → Nat) (inb' : ∀ a, off' a + size' a ≤ s.size a)
    (w' : (Rect.unit (s := s) off' size' inb').shape.Idx → Elt Ideal e)
    (off size : Fin s.rank → Nat) (inb : ∀ a, off a + size a ≤ s.size a)
    (w : (Rect.unit (s := s) off size inb).shape.Idx → Elt Ideal e) (L : List (View.Piece (Elt Ideal) s e))
    (y : s.Idx) (x : (Rect.unit (s := s) off size inb).shape.Idx) (h : ∀ a, (y a).val = off a + (x a).val)
    (a : Fin s.rank) (h' : (y a).val < off' a) :
    View.canon (Val := Elt Ideal) (⟨Rect.unit (s := s) off' size' inb', w'⟩ :: ⟨Rect.unit (s := s) off size inb, w⟩ :: L) y = w x :=
  (View.canon_cons_of_not_mem (Val := Elt Ideal) ⟨Rect.unit (s := s) off' size' inb', w'⟩ _ (not_mem_unit off' size' inb' y a h')).trans
    (canon_at off size inb w L y x h)

/-- The scale table holds, for parity `p` and lane `r`, the scale of row `2r + p`. -/
theorem table_apply (d : Vec Ideal S256x504 .i16) (p : Fin 2) (b : Fin 504) (r : Fin 128) :
    table (F := Ideal) d (ix3 p b r) = (Tile.f16 (d (ix2 ⟨2 * r.val + p.val, by omega⟩ b)) : EReal) := by
  unfold table
  have he := Tile.evenScales_apply d b r
  have ho := Tile.oddScales_apply d b r
  generalize Tile.evenScales (F := Ideal) d = E at he ⊢
  generalize Tile.oddScales (F := Ideal) d = O at ho ⊢
  match p with
  | ⟨0, _⟩ =>
    refine (canon_below (s := S2x504x128) (e := .f32) ![1, 0, 0] S1x504x128.size inb_S2x504x128_S1x504x128_1_0_0 O
      ![0, 0, 0] S1x504x128.size inb_S2x504x128_S1x504x128_0_0_0 E [] _ (ix3 0 b r) (fun t => ?_) 0 Nat.zero_lt_one).trans he
    match t with
    | ⟨0, _⟩ => rfl
    | ⟨1, _⟩ => exact (Nat.zero_add _).symm
    | ⟨2, _⟩ => exact (Nat.zero_add _).symm
  | ⟨1, _⟩ =>
    refine (canon_at (s := S2x504x128) (e := .f32) ![1, 0, 0] S1x504x128.size inb_S2x504x128_S1x504x128_1_0_0 O
      _ _ (ix3 0 b r) (fun t => ?_)).trans ho
    match t with
    | ⟨0, _⟩ => rfl
    | ⟨1, _⟩ => exact (Nat.zero_add _).symm
    | ⟨2, _⟩ => exact (Nat.zero_add _).symm

/-- The lane read for output lane `l` of the half that starts at `h`. -/
theorem laneIdx_apply (a l : Fin 128) :
    (Tile.laneIdx 0#32 (ix2 a l)).toNat = l.val / 2 ∧ (Tile.laneIdx 64#32 (ix2 a l)).toNat = l.val / 2 + 64
      ∧ Tile.laneEven (ix2 a l) = BitVec.ofBool (l.val % 2 == 0) := by
  pointwise [Tile.laneIdx, Tile.laneEven, Tile.laneHalf, Tile.lane, Tile.two]
  revert l
  decide

/-- Half a stored block at an index, for any lane choice `I` and parity `E`. -/
theorem weave_at (y : FVec Ideal S128x256 .f32) (I : IVec S128x128 32) (E : IVec S128x128 1) (a l : Fin 128) (n : Nat) (hn : n < 128)
    (hI : (I (ix2 a l)).toNat = n) (hE : E (ix2 a l) = BitVec.ofBool (l.val % 2 == 0)) :
    truncf (F := Ideal) .bf16 (select E (dynamicGather 1 (extractStridedSlice S128x128 ![0, 0] y slices_S128x256_o0_0_S128x128) I)
      (dynamicGather 1 (extractStridedSlice S128x128 ![0, 128] y slices_S128x256_o0_128_S128x128) I)) bitsLt_bf16_f32 (ix2 a l)
      = y (ix2 a ⟨128 * (l.val % 2) + n, by omega⟩) := by
  pointwise
  rw [hE]
  rcases Nat.mod_two_eq_zero_or_one l.val with h | h
  · simp only [h]
    show y _ = y _
    refine congrArg y (congrArg (ix2 a) (Fin.ext ?_))
    simp [hI]; omega
  · simp only [h]
    show y _ = y _
    refine congrArg y (congrArg (ix2 a) (Fin.ext ?_))
    simp [hI]; omega

/-- The stored block interleaves the columns of the product: column `n` is column `128 (n mod 2) + n / 2`. -/
theorem block_apply (y : FVec Ideal S128x256 .f32) (a : Fin 128) (n : Fin 256) :
    block (F := Ideal) y (ix2 a n) = y (ix2 a ⟨128 * (n.val % 2) + n.val / 2, by omega⟩) := by
  unfold block
  have hl := fun l : Fin 128 => weave_at y (Tile.laneIdx 0#32) Tile.laneEven a l (l.val / 2) (by omega) (laneIdx_apply a l).1 (laneIdx_apply a l).2.2
  have hh := fun l : Fin 128 => weave_at y (Tile.laneIdx 64#32) Tile.laneEven a l (l.val / 2 + 64) (by omega) (laneIdx_apply a l).2.1 (laneIdx_apply a l).2.2
  change ∀ l : Fin 128, Tile.weave (F := Ideal) 0#32 y (ix2 a l) = _ at hl
  change ∀ l : Fin 128, Tile.weave (F := Ideal) 64#32 y (ix2 a l) = _ at hh
  generalize Tile.weave (F := Ideal) 0#32 y = L at hl ⊢
  generalize Tile.weave (F := Ideal) 64#32 y = H at hh ⊢
  by_cases hn : n.val < 128
  · refine (canon_below (s := S128x256) (e := .bf16) ![0, 128] S128x128.size inb_S128x256_S128x128_0_128 H
      ![0, 0] S128x128.size inb_S128x256_S128x128_0_0 L [] _ (ix2 a ⟨n.val, hn⟩) (fun t => ?_) 1 hn).trans (hl _)
    match t with
    | ⟨0, _⟩ => exact (Nat.zero_add _).symm
    | ⟨1, _⟩ => exact (Nat.zero_add _).symm
  · refine (canon_at (s := S128x256) (e := .bf16) ![0, 128] S128x128.size inb_S128x256_S128x128_0_128 H
      _ _ (ix2 a ⟨n.val - 128, by omega⟩) (fun t => ?_)).trans ((hh _).trans ?_)
    · match t with
      | ⟨0, _⟩ => exact (Nat.zero_add _).symm
      | ⟨1, _⟩ => show n.val = 128 + (n.val - 128); omega
    · refine congrArg y (congrArg (ix2 a) (Fin.ext ?_))
      show 128 * ((n.val - 128) % 2) + ((n.val - 128) / 2 + 64) = 128 * (n.val % 2) + n.val / 2
      omega

/-- A load through a unit rectangle, at an index. -/
theorem ld_at {s : Shape} {e : EltTy} (X : s.Idx → Elt Ideal e) (off size : Fin s.rank → Nat) (inb) (x : (Rect.unit (s := s) off size inb).shape.Idx)
    (i : s.Idx) (hi : ∀ a, (i a : Nat) = off a + x a) : View.ld X (Rect.unit (s := s) off size inb) x = X i :=
  congrArg X (funext fun a => Fin.ext ((Rect.idx_unit_val off size inb x a).trans (hi a).symm))

/-- The activations of tile `j` are the columns `2304 k + 256 j + c` of the block. -/
theorem ldX_apply (i : grid0.Coords) (x : Vec Ideal S128x16128 .bf16) (j : Fin 9) (a : Fin 128) (c : Fin 256) (k : Fin 7)
    (hk : (i 1).val = k.val) :
    ldX i x j (ix2 a c) = x (ix2 a ⟨2304 * k.val + 256 * j.val + c.val, by omega⟩) := by
  refine ld_at _ _ _ _ _ _ fun b => ?_
  have h : k0_off1 i (BitVec.ofNat 32 (256 * j.val)) 1 = 2304 * k.val + 256 * j.val := by
    unfold k0_off1
    rw [hk]
    clear hk
    revert j k
    decide
  match b with
  | ⟨0, _⟩ => exact (Nat.zero_add _).symm
  | ⟨1, _⟩ => exact congrArg (· + c.val) h.symm

/-- The codes of tile `j` are the columns `256 j + c` of the block. -/
theorem ldQ_apply (q : Vec Ideal S256x2304 .i8) (j : Fin 9) (n : Fin 256) (c : Fin 256) :
    ldQ q j (ix2 n c) = q (ix2 n ⟨256 * j.val + c.val, by omega⟩) := by
  refine ld_at _ _ _ _ _ _ fun b => ?_
  match b with
  | ⟨0, _⟩ => exact (Nat.zero_add _).symm
  | ⟨1, _⟩ => rfl

/-- The scales of tile `j`, parity `p`, scale block `b`: row `72 k + 8 j + b` of the table. -/
theorem ldS_apply (i : grid0.Coords) (s : Vec Ideal S2x504x128 .f32) (j : Fin 9) (p : Fin 2) (b : Fin 8) (r : Fin 128) (k : Fin 7)
    (hk : (i 1).val = k.val) :
    ldS i s j p b (ix3 0 0 r) = s (ix3 p ⟨72 * k.val + 8 * j.val + b.val, by omega⟩ r) := by
  have h2 : k0_off2 i (BitVec.ofNat 32 (8 * j.val)) (BitVec.ofNat 32 b.val) = ![0, 72 * k.val + 8 * j.val + b.val, 0] := by
    unfold k0_off2
    rw [hk]
    clear hk
    revert j k b
    decide +kernel
  have h3 : k0_off3 i (BitVec.ofNat 32 (8 * j.val)) (BitVec.ofNat 32 b.val) = ![1, 72 * k.val + 8 * j.val + b.val, 0] := by
    unfold k0_off3
    rw [hk]
    clear hk h2
    revert j k b
    decide +kernel
  match p with
  | ⟨0, _⟩ =>
    refine ld_at _ _ _ _ _ _ fun t => ?_
    refine Eq.trans ?_ (congrArg (· + ((ix3 0 0 r : S1x1x128.Idx) t).val) (congrFun h2 t).symm)
    match t with
    | ⟨0, _⟩ => rfl
    | ⟨1, _⟩ => rfl
    | ⟨2, _⟩ => exact (Nat.zero_add _).symm
  | ⟨1, _⟩ =>
    refine ld_at _ _ _ _ _ _ fun t => ?_
    refine Eq.trans ?_ (congrArg (· + ((ix3 0 0 r : S1x1x128.Idx) t).val) (congrFun h3 t).symm)
    match t with
    | ⟨0, _⟩ => rfl
    | ⟨1, _⟩ => rfl
    | ⟨2, _⟩ => exact (Nat.zero_add _).symm

end Cert.KernelIdeal.Step

end
-- ==== Proof.Blocks.lean ====
/-
  What the windows of a grid point read of the arguments, at an index.
-/
module

public import proofs.«01_k».proof.Proof.Layout

@[expose] public section

set_option maxRecDepth 16384

noncomputable section

namespace Cert.KernelIdeal.Sweep

open Cert.KernelIdeal Cert.KernelIdeal.Gen Idealize.ShloMosaic Idealize.ShloMosaic.TcCoe Idealize.SL.Sem

variable (m : (ℓ : Loc nD τ sig) → Buf (Elt Ideal) ℓ) (c : Dev nD)

/-- The activations as the launch leaves them in memory. -/
abbrev xArg : Vec Ideal S128x1x16128 .bf16 := m ((c : Thread nD τ).loc main_arg0)

/-- Dropping the unit axis of the activations. -/
theorem flat_apply (x : Vec Ideal S128x1x16128 .bf16) (a : Fin 128) (K : Fin 16128) :
    shapeCast S128x16128 x shapeCasts_S128x1x16128_S128x16128 (ix2 a K) = x (ix3 a 0 K) := by
  pointwise

/-- The region finds the activations reshaped. -/
theorem V_x : V m c main_v0 = shapeCast S128x16128 (xArg m c) shapeCasts_S128x1x16128_S128x16128 := by
  show StableHlo.after hostOps0 _ (Proc.devRef .tc main_v0) = _
  after_results
  rfl

/-- The grid's coordinates of a point. -/
theorem coords_facts : ∀ t : Fin cfg0.N, ((grid0.coords t) 1).val = t.val % 7 := by decide +kernel

/-- The blocks the windows read at a point. -/
theorem index_facts : ∀ t : Fin cfg0.N, (win0_0.index t 0 = 0 ∧ win0_0.index t 1 = 0)
    ∧ (win0_1.index t 0 = t.val / 7 ∧ win0_1.index t 1 = t.val % 7) ∧ (win0_2.index t 0 = t.val / 7 ∧ win0_2.index t 1 = 0)
    ∧ (win0_3.index t 0 = t.val / 7 ∧ win0_3.index t 1 = t.val % 7) ∧ (win0_4.index t 0 = t.val / 7 ∧ win0_4.index t 1 = 0) := by
  decide +kernel

/-- There are 238 grid points. -/
theorem point_lt (t : Fin cfg0.N) : t.val < 238 := lt_of_lt_of_eq t.isLt (show cfg0.N = 238 from N_0)

/-- The block of activations is the whole array at every point. -/
theorem iblk_x (t : Fin cfg0.N) (a : Fin 128) (K : Fin 16128) :
    (iblk m c 0 t : Vec Ideal S128x16128 .bf16) (ix2 a K) = xArg m c (ix3 a 0 K) := by
  rw [← flat_apply (xArg m c) a K, ← V_x m c]
  have hi := (index_facts t).1
  unfold iblk
  rw [View.read_apply]
  show V m c main_v0 _ = V m c main_v0 _
  congr 1
  funext b
  apply Fin.ext
  match b with
  | ⟨0, _⟩ => show win0_0.index t 0 * 128 + 1 * a.val = a.val; rw [hi.1]; omega
  | ⟨1, _⟩ => show win0_0.index t 1 * 16128 + 1 * K.val = K.val; rw [hi.2]; omega

/-- The gate's codes at a point. -/
theorem iblk_gq (t : Fin cfg0.N) (n : Fin 256) (K : Fin 2304) :
    (iblk m c 1 t : Vec Ideal S256x2304 .i8) (ix2 n K) = (m ((c : Thread nD τ).loc main_arg1) : Vec Ideal S8704x16128 .i8)
      (ix2 ⟨256 * (t.val / 7) + n.val, by have := point_lt t; omega⟩ ⟨2304 * (t.val % 7) + K.val, by omega⟩) := by
  rw [← V_main_arg1 m c]
  have hi := (index_facts t).2.1
  unfold iblk
  rw [View.read_apply]
  show V m c main_arg1 _ = V m c main_arg1 _
  congr 1
  funext b
  apply Fin.ext
  match b with
  | ⟨0, _⟩ => show win0_1.index t 0 * 256 + 1 * n.val = 256 * (t.val / 7) + n.val; rw [hi.1]; omega
  | ⟨1, _⟩ => show win0_1.index t 1 * 2304 + 1 * K.val = 2304 * (t.val % 7) + K.val; rw [hi.2]; omega

/-- The gate's scale patterns at a point. -/
theorem iblk_gd (t : Fin cfg0.N) (n : Fin 256) (b : Fin 504) :
    (iblk m c 2 t : Vec Ideal S256x504 .i16) (ix2 n b) = (m ((c : Thread nD τ).loc main_arg2) : Vec Ideal S8704x504 .i16)
      (ix2 ⟨256 * (t.val / 7) + n.val, by have := point_lt t; omega⟩ b) := by
  rw [← V_main_arg2 m c]
  have hi := (index_facts t).2.2.1
  unfold iblk
  rw [View.read_apply]
  show V m c main_arg2 _ = V m c main_arg2 _
  congr 1
  funext a
  apply Fin.ext
  match a with
  | ⟨0, _⟩ => show win0_2.index t 0 * 256 + 1 * n.val = 256 * (t.val / 7) + n.val; rw [hi.1]; omega
  | ⟨1, _⟩ => show win0_2.index t 1 * 504 + 1 * b.val = b.val; rw [hi.2]; omega

/-- The up projection's codes at a point. -/
theorem iblk_uq (t : Fin cfg0.N) (n : Fin 256) (K : Fin 2304) :
    (iblk m c 3 t : Vec Ideal S256x2304 .i8) (ix2 n K) = (m ((c : Thread nD τ).loc main_arg3) : Vec Ideal S8704x16128 .i8)
      (ix2 ⟨256 * (t.val / 7) + n.val, by have := point_lt t; omega⟩ ⟨2304 * (t.val % 7) + K.val, by omega⟩) := by
  rw [← V_main_arg3 m c]
  have hi := (index_facts t).2.2.2.1
  unfold iblk
  rw [View.read_apply]
  show V m c main_arg3 _ = V m c main_arg3 _
  congr 1
  funext b
  apply Fin.ext
  match b with
  | ⟨0, _⟩ => show win0_3.index t 0 * 256 + 1 * n.val = 256 * (t.val / 7) + n.val; rw [hi.1]; omega
  | ⟨1, _⟩ => show win0_3.index t 1 * 2304 + 1 * K.val = 2304 * (t.val % 7) + K.val; rw [hi.2]; omega

/-- The up projection's scale patterns at a point. -/
theorem iblk_ud (t : Fin cfg0.N) (n : Fin 256) (b : Fin 504) :
    (iblk m c 4 t : Vec Ideal S256x504 .i16) (ix2 n b) = (m ((c : Thread nD τ).loc main_arg4) : Vec Ideal S8704x504 .i16)
      (ix2 ⟨256 * (t.val / 7) + n.val, by have := point_lt t; omega⟩ b) := by
  rw [← V_main_arg4 m c]
  have hi := (index_facts t).2.2.2.2
  unfold iblk
  rw [View.read_apply]
  show V m c main_arg4 _ = V m c main_arg4 _
  congr 1
  funext a
  apply Fin.ext
  match a with
  | ⟨0, _⟩ => show win0_4.index t 0 * 256 + 1 * n.val = 256 * (t.val / 7) + n.val; rw [hi.1]; omega
  | ⟨1, _⟩ => show win0_4.index t 1 * 504 + 1 * b.val = b.val; rw [hi.2]; omega

end Cert.KernelIdeal.Sweep

end
-- ==== Proof.Sweep.lean ====
/-
  How the scale tables and the accumulators pass from one grid point to the next, over any float values.
-/
module

public import proofs.«01_k».proof.Proof.Step

@[expose] public section

set_option maxRecDepth 16384

noncomputable section

namespace Cert.KernelIdeal.Sweep

open Cert.KernelIdeal Cert.KernelIdeal.Gen Cert.KernelIdeal.Value Idealize.ShloMosaic Idealize.ShloMosaic.TcCoe Idealize.SL.Sem

variable {F : FTy → Type} [FloatOps F]
variable (m : (ℓ : Loc nD τ sig) → Buf (Elt F) ℓ) (c : Dev nD)

/-- The gate's scale table after a point. -/
def gateTable (t : Fin cfg0.N) : Vec F S2x504x128 .f32 := (outsAt0 m c t.val t.isLt).2.1

/-- The up projection's scale table after a point. -/
def upTable (t : Fin cfg0.N) : Vec F S2x504x128 .f32 := (outsAt0 m c t.val t.isLt).2.2.1

/-- The gate's accumulator after a point. -/
def gateAcc (t : Fin cfg0.N) : Vec F S128x256 .f32 := (outsAt0 m c t.val t.isLt).2.2.2.1

/-- The up projection's accumulator after a point. -/
def upAcc (t : Fin cfg0.N) : Vec F S128x256 .f32 := (outsAt0 m c t.val t.isLt).2.2.2.2

/-- The point before. -/
def prev (t : Fin cfg0.N) : Fin cfg0.N := ⟨t.val - 1, Nat.lt_of_le_of_lt (Nat.sub_le _ _) t.isLt⟩

section First

variable (t : Fin cfg0.N) (h0 : t.val % 7 = 0)

include h0

/-- At the first point of a sweep the gate's table is decoded from the point's block of patterns. -/
theorem gateTable_first : gateTable m c t = Step.table (iblk m c 2 t) := by
  unfold gateTable
  rw [outsAt0_A m c t h0 (by omega)]
  dsimp only
  rw [Step.table_gate_A]

/-- At the first point of a sweep the up weight's table is decoded from the point's block of patterns. -/
theorem upTable_first : upTable m c t = Step.table (iblk m c 4 t) := by
  unfold upTable
  rw [outsAt0_A m c t h0 (by omega)]
  dsimp only
  rw [Step.table_up_A]

/-- At the first point of a sweep the gate's accumulator starts from zero and takes the point's tiles. -/
theorem gateAcc_first : gateAcc m c t = Tile.point Tile.zeros (Step.ldX (grid0.coords t) (iblk m c 0 t)) (Step.ldQ (iblk m c 1 t))
    (Step.ldS (grid0.coords t) (Step.table (iblk m c 2 t))) := by
  unfold gateAcc
  rw [outsAt0_A m c t h0 (by omega)]
  dsimp only
  rw [Step.gate_A]

/-- At the first point of a sweep the up accumulator starts from zero and takes the point's tiles. -/
theorem upAcc_first : upAcc m c t = Tile.point Tile.zeros (Step.ldX (grid0.coords t) (iblk m c 0 t)) (Step.ldQ (iblk m c 3 t))
    (Step.ldS (grid0.coords t) (Step.table (iblk m c 4 t))) := by
  unfold upAcc
  rw [outsAt0_A m c t h0 (by omega)]
  dsimp only
  rw [Step.up_A]

end First

section Later

variable (t : Fin cfg0.N) (h0 : ¬t.val % 7 = 0)

include h0

/-- At a later point the gate's table is the one carried over. -/
theorem gateTable_later : gateTable m c t = gateTable m c (prev t) := by
  by_cases h1 : t.val % 7 = 6
  · exact (congrArg (·.2.1) (outsAt0_C m c t h0 h1)).trans rfl
  · exact (congrArg (·.2.1) (outsAt0_B m c t h0 h1)).trans rfl

/-- At a later point the up weight's table is the one carried over. -/
theorem upTable_later : upTable m c t = upTable m c (prev t) := by
  by_cases h1 : t.val % 7 = 6
  · exact (congrArg (·.2.2.1) (outsAt0_C m c t h0 h1)).trans rfl
  · exact (congrArg (·.2.2.1) (outsAt0_B m c t h0 h1)).trans rfl

/-- At a later point the gate's accumulator is the carried one and the point's tiles. -/
theorem gateAcc_later : gateAcc m c t = Tile.point (gateAcc m c (prev t)) (Step.ldX (grid0.coords t) (iblk m c 0 t)) (Step.ldQ (iblk m c 1 t))
    (Step.ldS (grid0.coords t) (gateTable m c (prev t))) := by
  by_cases h1 : t.val % 7 = 6
  · rw [show gateAcc m c t = (outsAt0 m c t.val t.isLt).2.2.2.1 from rfl, outsAt0_C m c t h0 h1]
    dsimp only
    rw [Step.gate_C]
    rfl
  · rw [show gateAcc m c t = (outsAt0 m c t.val t.isLt).2.2.2.1 from rfl, outsAt0_B m c t h0 h1]
    dsimp only
    rw [Step.gate_B]
    rfl

/-- At a later point the up accumulator is the carried one and the point's tiles. -/
theorem upAcc_later : upAcc m c t = Tile.point (upAcc m c (prev t)) (Step.ldX (grid0.coords t) (iblk m c 0 t)) (Step.ldQ (iblk m c 3 t))
    (Step.ldS (grid0.coords t) (upTable m c (prev t))) := by
  by_cases h1 : t.val % 7 = 6
  · rw [show upAcc m c t = (outsAt0 m c t.val t.isLt).2.2.2.2 from rfl, outsAt0_C m c t h0 h1]
    dsimp only
    rw [Step.up_C]
    rfl
  · rw [show upAcc m c t = (outsAt0 m c t.val t.isLt).2.2.2.2 from rfl, outsAt0_B m c t h0 h1]
    dsimp only
    rw [Step.up_B]
    rfl

/-- The block the last point of a row of blocks stores. -/
theorem out_last (h1 : t.val % 7 = 6) : (outsAt0 m c t.val t.isLt).1 = Step.block (Tile.gated (gateAcc m c t) (upAcc m c t)) := by
  rw [gateAcc_later m c t h0, upAcc_later m c t h0]
  rw [outsAt0_C m c t h0 h1]
  dsimp only
  rw [Step.out_C]
  rfl

end Later

end Cert.KernelIdeal.Sweep

end
-- ==== Proof.Acc.lean ====
/-
  The accumulators after a point, as sums over the part of the contracted axis read so far; after the last
  point of a row of blocks, the whole linear map.
-/
module

public import proofs.«01_k».proof.Proof.Blocks
public import proofs.«01_k».proof.Proof.Sweep

@[expose] public section

set_option maxRecDepth 16384

noncomputable section

namespace Cert.KernelIdeal.Sweep

open Cert.KernelIdeal Cert.KernelIdeal.Gen Idealize.ShloMosaic Idealize.ShloMosaic.TcCoe Idealize.SL.Sem

/-- One product of the linear map: an activation times a code times its block's scale. -/
def term (x : Vec Ideal S128x1x16128 .bf16) (q : Vec Ideal S8704x16128 .i8) (d : Vec Ideal S8704x504 .i16)
    (a : Fin 128) (n : Fin 8704) (K : Fin 16128) : EReal :=
  x (ix3 a 0 K) * (Tile.val (q (ix2 n K)) * (Tile.f16 (d (ix2 n ⟨K.val / 32, by omega⟩)) : EReal))

/-- The linear map at row `a`, output column `n`. -/
def lin (x : Vec Ideal S128x1x16128 .bf16) (q : Vec Ideal S8704x16128 .i8) (d : Vec Ideal S8704x504 .i16)
    (a : Fin 128) (n : Fin 8704) : EReal := ∑ K : Fin 16128, term x q d a n K

/-- A sum over blocks of equal length is the sum over the whole axis. -/
theorem sum_blocks (M N T : Nat) (h : M * N = T) (f : Fin T → EReal) (hb : ∀ (i : Fin M) (j : Fin N), N * i.val + j.val < T) :
    ∑ i : Fin M, ∑ j : Fin N, f ⟨N * i.val + j.val, hb i j⟩ = ∑ k : Fin T, f k := by
  subst h
  rw [← Fintype.sum_prod_type' (f := fun i j => f ⟨N * i.val + j.val, hb i j⟩)]
  refine Fintype.sum_equiv finProdFinEquiv _ _ fun p => ?_
  refine congrArg f (Fin.ext ?_)
  show N * p.1.val + p.2.val = p.2.val + N * p.1.val
  omega

/-- The part of the linear map that grid step `k` adds. -/
def part (f : Fin 16128 → EReal) (k : Nat) : EReal :=
  if h : k < 7 then ∑ j : Fin 9, ∑ c : Fin 256, f ⟨2304 * k + 256 * j.val + c.val, by omega⟩ else 0

/-- The seven parts are the whole sum. -/
theorem sum_parts (f : Fin 16128 → EReal) : ∑ k ∈ Finset.range 7, part f k = ∑ K : Fin 16128, f K := by
  rw [Finset.sum_range, ← sum_blocks 7 2304 16128 (by norm_num) f (by intro i j; omega)]
  refine Finset.sum_congr rfl fun k _ => ?_
  rw [part, dif_pos k.isLt, ← sum_blocks 9 256 2304 (by norm_num) (fun u => f ⟨2304 * k.val + u.val, by omega⟩) (by intro i j; omega)]
  refine Finset.sum_congr rfl fun j _ => Finset.sum_congr rfl fun c _ => congrArg f (Fin.ext ?_)
  show 2304 * k.val + 256 * j.val + c.val = 2304 * k.val + (256 * j.val + c.val)
  omega

/-- The output column that lane `(p, r)` of the row of blocks `i` stands for. -/
def col (t : Fin cfg0.N) (p : Fin 2) (r : Fin 128) : Fin 8704 :=
  ⟨256 * (t.val / 7) + (2 * r.val + p.val), by have := point_lt t; omega⟩

/-- Within a sweep the output columns of a point are those of the point before it. -/
theorem col_prev (t : Fin cfg0.N) (h : ¬t.val % 7 = 0) (p : Fin 2) (r : Fin 128) : col (prev t) p r = col t p r :=
  Fin.ext (by show 256 * ((t.val - 1) / 7) + _ = 256 * (t.val / 7) + _; omega)

section

variable (tab : Fin cfg0.N → Vec Ideal S2x504x128 .f32) (acc : Fin cfg0.N → Vec Ideal S128x256 .f32)
  (x : Fin cfg0.N → Vec Ideal S128x16128 .bf16) (q : Fin cfg0.N → Vec Ideal S256x2304 .i8) (d : Fin cfg0.N → Vec Ideal S256x504 .i16)
  (X : Vec Ideal S128x1x16128 .bf16) (Q : Vec Ideal S8704x16128 .i8) (D : Vec Ideal S8704x504 .i16)
  (hx : ∀ t a K, x t (ix2 a K) = X (ix3 a 0 K))
  (hq : ∀ t (n : Fin 256) (K : Fin 2304), q t (ix2 n K)
    = Q (ix2 ⟨256 * (t.val / 7) + n.val, by have := point_lt t; omega⟩ ⟨2304 * (t.val % 7) + K.val, by omega⟩))
  (hd : ∀ t (n : Fin 256) b, d t (ix2 n b) = D (ix2 ⟨256 * (t.val / 7) + n.val, by have := point_lt t; omega⟩ b))
  (htab0 : ∀ t : Fin cfg0.N, t.val % 7 = 0 → tab t = Step.table (d t))
  (htab1 : ∀ t : Fin cfg0.N, ¬t.val % 7 = 0 → tab t = tab (prev t))
  (hacc0 : ∀ t : Fin cfg0.N, t.val % 7 = 0 →
    acc t = Tile.point Tile.zeros (Step.ldX (grid0.coords t) (x t)) (Step.ldQ (q t)) (Step.ldS (grid0.coords t) (Step.table (d t))))
  (hacc1 : ∀ t : Fin cfg0.N, ¬t.val % 7 = 0 →
    acc t = Tile.point (acc (prev t)) (Step.ldX (grid0.coords t) (x t)) (Step.ldQ (q t)) (Step.ldS (grid0.coords t) (tab (prev t))))

include hd in
/-- An entry of the scale table of a point is the scale of its output column, at the patterns of that row block. -/
theorem table_col (t : Fin cfg0.N) (p : Fin 2) (b : Fin 504) (r : Fin 128) :
    Step.table (F := Ideal) (d t) (ix3 p b r) = (Tile.f16 (D (ix2 (col t p r) b)) : EReal) := by
  rw [Step.table_apply, hd]
  rfl

include hd htab0 htab1 in
/-- The scale table after any point: the scales of the point's row of blocks. -/
theorem tab_eq : ∀ (n : Nat) (t : Fin cfg0.N), t.val = n → ∀ (p : Fin 2) (b : Fin 504) (r : Fin 128),
    tab t (ix3 p b r) = (Tile.f16 (D (ix2 (col t p r) b)) : EReal) := by
  intro n
  induction n with
  | zero =>
    intro t ht p b r
    rw [htab0 t (by omega), table_col d D hd]
  | succ n ih =>
    intro t ht p b r
    by_cases h0 : t.val % 7 = 0
    · rw [htab0 t h0, table_col d D hd]
    · rw [htab1 t h0, ih (prev t) (by show t.val - 1 = n; omega), col_prev t h0]

include hx hq in
/-- What a point adds to an accumulator, over any table that holds the scales of the row of blocks. -/
theorem point_part (z : FVec Ideal S128x256 .f32) (s : Vec Ideal S2x504x128 .f32) (t : Fin cfg0.N)
    (hs : ∀ p b r, s (ix3 p b r) = (Tile.f16 (D (ix2 (col t p r) b)) : EReal)) (a : Fin 128) (p : Fin 2) (r : Fin 128) :
    Tile.point z (Step.ldX (grid0.coords t) (x t)) (Step.ldQ (q t)) (Step.ldS (grid0.coords t) s) (ix2 a ⟨128 * p.val + r.val, by omega⟩)
      = z (ix2 a ⟨128 * p.val + r.val, by omega⟩) + part (term X Q D a (col t p r)) (t.val % 7) := by
  have hk := coords_facts t
  have h7 : t.val % 7 < 7 := Nat.mod_lt _ (by omega)
  rw [Tile.point_apply, part, dif_pos h7]
  congr 1
  refine Finset.sum_congr rfl fun j _ => Finset.sum_congr rfl fun c _ => ?_
  rw [Tile.deq_apply, Step.ldX_apply _ _ _ _ _ ⟨t.val % 7, h7⟩ hk, Step.ldQ_apply, Step.ldS_apply _ _ _ _ _ _ ⟨t.val % 7, h7⟩ hk, hx, hq, hs]
  unfold term col
  have e1 : 2304 * (t.val % 7) + (256 * j.val + c.val) = 2304 * (t.val % 7) + 256 * j.val + c.val := by omega
  have e2 : 72 * (t.val % 7) + 8 * j.val + c.val / 32 = (2304 * (t.val % 7) + 256 * j.val + c.val) / 32 := by omega
  simp only [e1, e2]

include hx hq hd htab0 htab1 hacc0 hacc1 in
/-- The accumulator after any point. -/
theorem acc_eq : ∀ (n : Nat) (t : Fin cfg0.N), t.val = n → ∀ (a : Fin 128) (p : Fin 2) (r : Fin 128),
    acc t (ix2 a ⟨128 * p.val + r.val, by omega⟩) = ∑ k ∈ Finset.range (t.val % 7 + 1), part (term X Q D a (col t p r)) k := by
  have first : ∀ t : Fin cfg0.N, t.val % 7 = 0 → ∀ (a : Fin 128) (p : Fin 2) (r : Fin 128),
      acc t (ix2 a ⟨128 * p.val + r.val, by omega⟩) = ∑ k ∈ Finset.range (t.val % 7 + 1), part (term X Q D a (col t p r)) k := by
    intro t h0 a p r
    rw [hacc0 t h0, point_part x q X Q D hx hq _ _ t (table_col d D hd t), Tile.zeros_apply, h0, zero_add, Finset.sum_range_one]
  intro n
  induction n with
  | zero =>
    intro t ht a p r
    exact first t (by omega) a p r
  | succ n ih =>
    intro t ht a p r
    by_cases h0 : t.val % 7 = 0
    · exact first t h0 a p r
    · have hp := ih (prev t) (by show t.val - 1 = n; omega) a p r
      have hs : ∀ p b r, tab (prev t) (ix3 p b r) = (Tile.f16 (D (ix2 (col t p r) b)) : EReal) := fun p b r => by
        rw [tab_eq tab d D hd htab0 htab1 _ (prev t) rfl, col_prev t h0]
      have hm : (prev t).val % 7 + 1 = t.val % 7 := by show (t.val - 1) % 7 + 1 = t.val % 7; omega
      rw [hacc1 t h0, point_part x q X Q D hx hq _ _ t hs, hp, hm, col_prev t h0, Finset.sum_range_succ]

include hx hq hd htab0 htab1 hacc0 hacc1 in
/-- After the last point of a row of blocks the accumulator holds the linear map. -/
theorem acc_last (t : Fin cfg0.N) (h : t.val % 7 = 6) (a : Fin 128) (p : Fin 2) (r : Fin 128) :
    acc t (ix2 a ⟨128 * p.val + r.val, by omega⟩) = lin X Q D a (col t p r) := by
  rw [acc_eq tab acc x q d X Q D hx hq hd htab0 htab1 hacc0 hacc1 _ t rfl, h, sum_parts]
  rfl

end

variable (m : (ℓ : Loc nD τ sig) → Buf (Elt Ideal) ℓ) (c : Dev nD)

/-- The gate's codes, the gate's scale patterns, the up projection's codes and scale patterns as launched. -/
abbrev gqArg : Vec Ideal S8704x16128 .i8 := m ((c : Thread nD τ).loc main_arg1)
abbrev gdArg : Vec Ideal S8704x504 .i16 := m ((c : Thread nD τ).loc main_arg2)
abbrev uqArg : Vec Ideal S8704x16128 .i8 := m ((c : Thread nD τ).loc main_arg3)
abbrev udArg : Vec Ideal S8704x504 .i16 := m ((c : Thread nD τ).loc main_arg4)

/-- The gate's accumulator after the last point of a row of blocks. -/
theorem gateAcc_last (t : Fin cfg0.N) (h : t.val % 7 = 6) (a : Fin 128) (p : Fin 2) (r : Fin 128) :
    gateAcc m c t (ix2 a ⟨128 * p.val + r.val, by omega⟩) = lin (xArg m c) (gqArg m c) (gdArg m c) a (col t p r) :=
  acc_last (gateTable m c) (gateAcc m c) (fun t => iblk m c 0 t) (fun t => iblk m c 1 t) (fun t => iblk m c 2 t) (xArg m c) (gqArg m c) (gdArg m c)
    (iblk_x m c) (iblk_gq m c) (iblk_gd m c) (gateTable_first m c) (gateTable_later m c) (gateAcc_first m c) (gateAcc_later m c) t h a p r

/-- The up projection's accumulator after the last point of a row of blocks. -/
theorem upAcc_last (t : Fin cfg0.N) (h : t.val % 7 = 6) (a : Fin 128) (p : Fin 2) (r : Fin 128) :
    upAcc m c t (ix2 a ⟨128 * p.val + r.val, by omega⟩) = lin (xArg m c) (uqArg m c) (udArg m c) a (col t p r) :=
  acc_last (upTable m c) (upAcc m c) (fun t => iblk m c 0 t) (fun t => iblk m c 3 t) (fun t => iblk m c 4 t) (xArg m c) (uqArg m c) (udArg m c)
    (iblk_x m c) (iblk_uq m c) (iblk_ud m c) (upTable_first m c) (upTable_later m c) (upAcc_first m c) (upAcc_later m c) t h a p r

end Cert.KernelIdeal.Sweep

end
-- ==== Proof.KerValue.lean ====
/-
  The kernel's result array at an index: the gated product of the two linear maps.
-/
module

public import proofs.«01_k».proof.Proof.Acc

@[expose] public section

set_option maxRecDepth 16384

noncomputable section

namespace Cert.KernelIdeal.Sweep

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-- The block the last point of a row of blocks stores, at an index. -/
theorem out_apply (t : Fin cfg0.N) (h : t.val % 7 = 6) (a : Fin 128) (n : Fin 256) (N : Fin 8704) (hN : N.val = 256 * (t.val / 7) + n.val) :
    (outsAt0 m c t.val t.isLt).1 (ix2 a n) = lin (xArg m c) (gqArg m c) (gdArg m c) a N * Ideal.logistic (lin (xArg m c) (gqArg m c) (gdArg m c) a N)
      * lin (xArg m c) (uqArg m c) (udArg m c) a N := by
  have hc : col t ⟨n.val % 2, Nat.mod_lt _ (by omega)⟩ ⟨n.val / 2, by omega⟩ = N :=
    Fin.ext (by show 256 * (t.val / 7) + (2 * (n.val / 2) + n.val % 2) = N.val; omega)
  have hg := gateAcc_last m c t h a ⟨n.val % 2, Nat.mod_lt _ (by omega)⟩ ⟨n.val / 2, by omega⟩
  have hu := upAcc_last m c t h a ⟨n.val % 2, Nat.mod_lt _ (by omega)⟩ ⟨n.val / 2, by omega⟩
  rw [hc] at hg hu
  rw [out_last m c t (by omega) h, Step.block_apply, Tile.gated_apply, hg, hu]

/-- The result array at an index. -/
theorem G5_apply (a : Fin 128) (N : Fin 8704) :
    (G5 m c : Vec Ideal S128x8704 .bf16) (ix2 a N) = lin (xArg m c) (gqArg m c) (gdArg m c) a N * Ideal.logistic (lin (xArg m c) (gqArg m c) (gdArg m c) a N)
      * lin (xArg m c) (uqArg m c) (udArg m c) a N := by
  have hrun : run5Of (ix2 a N) = N.val / 256 := by
    show 34 * (a.val / 128 - 0) + 1 * (N.val / 256 - 0) = N.val / 256
    have := a.isLt
    omega
  have hpt : pt5Of (ix2 a N) = 7 * (N.val / 256) + 6 := by show 7 * run5Of (ix2 a N) + 6 = _; rw [hrun]
  have hlt : pt5Of (ix2 a N) < cfg0.N := by rw [hpt, show cfg0.N = 238 from N_0]; omega
  have hloc : loc5Of (ix2 a N) = ix2 a ⟨N.val % 256, Nat.mod_lt _ (by omega)⟩ := by
    funext b
    match b with
    | ⟨0, _⟩ => exact Fin.ext (Nat.mod_eq_of_lt a.isLt)
    | ⟨1, _⟩ => rfl
  have hs := outsAt0_sweep m c (pt5Of (ix2 a N)) hlt
  unfold G5
  rw [dif_pos hlt]
  rw [← hs, hloc]
  exact out_apply m c ⟨pt5Of (ix2 a N), hlt⟩ (by show pt5Of (ix2 a N) % 7 = 6; rw [hpt]; omega) a _ N
    (by show N.val = 256 * (pt5Of (ix2 a N) / 7) + N.val % 256; rw [hpt]; omega)

end Cert.KernelIdeal.Sweep

end
-- ==== Proof.RefScale.lean ====
/-
  The reference's scales: its reading of the 16-bit patterns, at an index, is the value the pattern stands for.
-/
module

public import proofs.«01_k».proof.Proof.Scale
public import proofs.«01_k».proof.Proof.Gen.ReferenceIdeal.Run

@[expose] public section

set_option maxRecDepth 16384

noncomputable section

namespace Cert.ReferenceIdeal.Ref

open Cert.ReferenceIdeal Cert.ReferenceIdeal.Gen Idealize.ShloMosaic Idealize.ShloMosaic.TcCoe
open Cert.KernelIdeal.Tile (expo mant size f16 ofBits_normal)

/-- One integer at every index of the scales' shape. -/
def word (b : BitVec 32) : IVec S8704x504 32 := broadcastInDim S8704x504 ![] bcast_S_S8704x504 (constantI S_ 32 b)

/-- One real at every index of the scales' shape. -/
def real (z : Ideal .f32) : FVec Ideal S8704x504 .f32 := broadcastInDim S8704x504 ![] bcast_S_S8704x504 (fun _ : S_.Idx => z)

/-- The patterns as nonnegative integers. -/
def bits (d : IVec S8704x504 16) : IVec S8704x504 32 := andi (extsi 32 d natLt_16_32) (word 65535#32)

/-- The exponent fields. -/
def expos (d : IVec S8704x504 16) : IVec S8704x504 32 := andi (Host.shrsi (bits d) (word 10#32)) (word 31#32)

/-- The fraction fields. -/
def mants (d : IVec S8704x504 16) : IVec S8704x504 32 := andi (bits d) (word 1023#32)

/-- The magnitudes, for any two constants in the places of `2^-24` and `2`. -/
def mags (u b : Ideal .f32) (d : IVec S8704x504 16) : FVec Ideal S8704x504 .f32 :=
  select (cmpi .eq (expos d) (word 0#32)) (mulf (sitofp .f32 (mants d)) (real u))
    (mulf (sitofp .f32 (addi (mants d) (word 1024#32))) (Host.powf (real b) (sitofp .f32 (subi (expos d) (word 25#32)))))

/-- The signed values, for any two constants in the places of `2^-24` and `2`. -/
def scales (u b : Ideal .f32) (d : IVec S8704x504 16) : FVec Ideal S8704x504 .f32 :=
  select (cmpi .sge (bits d) (word 32768#32)) (Host.negf (mags u b d)) (mags u b d)

/-- A pattern widened by its sign and masked is its unsigned value. -/
theorem masked_toNat (v : BitVec 16) : (v.signExtend 32 &&& 65535#32).toNat = v.toNat := by
  rw [BitVec.toNat_and, show (65535#32).toNat = 2 ^ 16 - 1 from rfl, Nat.and_two_pow_sub_one_eq_mod, BitVec.toNat_signExtend,
    BitVec.toNat_setWidth]
  have := v.isLt
  split <;> omega

/-- The masked word of a pattern has the pattern's value. -/
theorem bits_toNat (d : IVec S8704x504 16) (i : S8704x504.Idx) : (bits d i).toNat = (d i).toNat :=
  masked_toNat (d i)

/-- The reference's exponent field is that of the pattern. -/
theorem expos_eq (d : IVec S8704x504 16) (i : S8704x504.Idx) : expos d i = BitVec.ofNat 32 (expo (d i)) := by
  have hb := bits_toNat d i
  have hl := (d i).isLt
  show IntOp.shrsi .host (bits d i) 10#32 &&& 31#32 = _
  rw [show IntOp.shrsi .host (bits d i) 10#32 = (bits d i).sshiftRight 10 from if_pos (by decide), BitVec.sshiftRight_eq_of_msb_false (by rw [BitVec.msb_eq_decide]; simp [hb]; omega)]
  apply BitVec.eq_of_toNat_eq
  rw [BitVec.toNat_and, show (31#32).toNat = 2 ^ 5 - 1 from rfl, Nat.and_two_pow_sub_one_eq_mod, BitVec.toNat_ushiftRight, hb,
    Nat.shiftRight_eq_div_pow, BitVec.toNat_ofNat]
  unfold expo
  omega

/-- The reference's significand field is that of the pattern. -/
theorem mants_eq (d : IVec S8704x504 16) (i : S8704x504.Idx) : mants d i = BitVec.ofNat 32 (mant (d i)) := by
  have hb := bits_toNat d i
  show bits d i &&& 1023#32 = _
  apply BitVec.eq_of_toNat_eq
  rw [BitVec.toNat_and, show (1023#32).toNat = 2 ^ 10 - 1 from rfl, Nat.and_two_pow_sub_one_eq_mod, hb, BitVec.toNat_ofNat]
  unfold mant
  omega

/-- The magnitude at an index, over the two fields. -/
theorem mags_vec (u b : Ideal .f32) (d : IVec S8704x504 16) (i : S8704x504.Idx) :
    mags u b d i = Scalar.select (BitVec.ofBool (expos d i == 0#32)) ((((mants d i).toInt : ℝ) : EReal) * u : EReal)
      ((((mants d i + 1024#32).toInt : ℝ) : EReal) * Ideal.pow b ((((expos d i - 25#32).toInt : ℝ) : EReal)) : EReal) := rfl

/-- The value at an index, over the pattern's integer and its magnitude. -/
theorem scales_vec (u b : Ideal .f32) (d : IVec S8704x504 16) (i : S8704x504.Idx) :
    scales u b d i = Scalar.select (BitVec.ofBool ((32768#32 : BitVec 32).sle (bits d i))) (-(mags u b d i) : EReal) (mags u b d i) := rfl

/-- The reference's magnitude is the magnitude of the pattern. -/
theorem mags_apply (d : IVec S8704x504 16) (i : S8704x504.Idx) :
    mags (((2 : ℝ) ^ (-24 : ℤ) : ℝ) : EReal) ((2 : ℝ) : EReal) d i = (size (d i) : EReal) := by
  have he : expo (d i) < 32 := Nat.mod_lt _ (by omega)
  have hm : mant (d i) < 1024 := Nat.mod_lt _ (by omega)
  rw [mags_vec, mants_eq, expos_eq]
  unfold size
  generalize expo (d i) = e at he
  generalize mant (d i) = k at hm
  have h1 : (BitVec.ofNat 32 k).toInt = k := by
    rw [BitVec.toInt_eq_toNat_of_lt (by rw [BitVec.toNat_ofNat]; omega), BitVec.toNat_ofNat, Nat.mod_eq_of_lt (by omega)]
  have h2 : (BitVec.ofNat 32 k + 1024#32).toInt = k + 1024 := by
    have : (BitVec.ofNat 32 k + 1024#32).toNat = k + 1024 := by
      rw [BitVec.toNat_add, BitVec.toNat_ofNat]; show (_ + 1024) % _ = _; omega
    rw [BitVec.toInt_eq_toNat_of_lt (by omega), this]
    push_cast
    rfl
  have h3 : (BitVec.ofNat 32 e - 25#32).toInt = (e : ℤ) - 25 := by
    revert he
    revert e
    decide
  by_cases h0 : e = 0
  · subst h0
    rw [if_pos rfl, h1]
    show (((k : ℤ) : ℝ) : EReal) * _ = _
    rw [← EReal.coe_mul, Int.cast_natCast]
  · have hne : (BitVec.ofNat 32 e == 0#32) = false := by
      rw [beq_eq_false_iff_ne]
      intro h
      have := congrArg BitVec.toNat h
      rw [BitVec.toNat_ofNat] at this
      simp at this
      omega
    rw [if_neg h0, hne, h2, h3]
    show (((((k : ℤ) + 1024 : ℤ) : ℝ)) : EReal) * Ideal.pow _ _ = _
    rw [Ideal.pow_coe_coe, ← EReal.coe_mul]
    congr 1
    rw [show Real.rpow 2 (((e : ℤ) - 25 : ℤ) : ℝ) = (2 : ℝ) ^ ((e : ℤ) - 25) from Real.rpow_intCast 2 _]
    push_cast
    rfl

/-- The reference's scale is the float16 value of the pattern. -/
theorem scales_apply (d : IVec S8704x504 16) (i : S8704x504.Idx) :
    scales (((2 : ℝ) ^ (-24 : ℤ) : ℝ) : EReal) ((2 : ℝ) : EReal) d i = (f16 (d i) : EReal) := by
  have hb := bits_toNat d i
  have hl := (d i).isLt
  rw [scales_vec, mags_apply]
  have hs : (32768#32 : BitVec 32).sle (bits d i) = decide (2 ^ 15 ≤ (d i).toNat) := by
    rw [BitVec.sle_eq_decide, BitVec.toInt_eq_toNat_of_lt (x := bits d i) (by omega), hb]
    show decide ((32768 : ℤ) ≤ _) = _
    congr 1
    apply propext
    omega
  rw [hs]
  unfold f16
  by_cases h : 2 ^ 15 ≤ (d i).toNat
  · rw [if_pos h, decide_eq_true h]
    exact (EReal.coe_neg _).symm
  · rw [if_neg h, decide_eq_false h]
    rfl

/-- The reference's two constants. -/
theorem ofBits_unit : Ideal.ofBits .f32 0x33800000#32 = (((2 : ℝ) ^ (-24 : ℤ) : ℝ) : EReal) := by
  rw [ofBits_normal _ 103 0 (by decide) (by omega) (by omega) (by omega)]
  congr 1
  norm_num

/-- The f32 word 0x40000000 is two. -/
theorem ofBits_two : Ideal.ofBits .f32 0x40000000#32 = ((2 : ℝ) : EReal) := by
  rw [ofBits_normal _ 128 0 (by decide) (by omega) (by omega) (by omega)]
  congr 1
  norm_num

end Cert.ReferenceIdeal.Ref

end
-- ==== Proof.RefValue.lean ====
/-
  The reference's result at an index: the gated product of the two linear maps.
-/
module

public import proofs.«01_k».proof.Proof.RefScale
public import proofs.«01_k».proof.Proof.Acc

@[expose] public section

set_option maxRecDepth 16384

noncomputable section

namespace Cert.ReferenceIdeal.Ref

open Cert.ReferenceIdeal Cert.ReferenceIdeal.Gen Idealize.ShloMosaic Idealize.ShloMosaic.TcCoe
open Cert.KernelIdeal.Tile (val f16)
open Cert.KernelIdeal.Sweep (lin term)

/-- The weights: each code times its block's scale. -/
def weights (s : FVec Ideal S8704x504 .f32) (q : Vec Ideal S8704x16128 .i8) : FVec Ideal S8704x16128 .bf16 :=
  shapeCast S8704x16128 (truncf .bf16 (mulf (shapeCast S8704x504x32 (sitofp .f32 (extsi 32 q natLt_8_32)) shapeCasts_S8704x16128_S8704x504x32)
    (broadcastInDim S8704x504x32 ![0, 1, 2] bcast_S8704x504x1_S8704x504x32_0_1_2
      (broadcastInDim S8704x504x1 ![0, 1] bcast_S8704x504_S8704x504x1_0_1 s))) bitsLt_bf16_f32) shapeCasts_S8704x504x32_S8704x16128

/-- The product of the activations with the weights. -/
def linear (x : Vec Ideal S128x1x16128 .bf16) (w : FVec Ideal S8704x16128 .bf16) : FVec Ideal S128x1x8704 .f32 :=
  Host.dotGeneral (φ₁ := .bf16) dot_S128x1x16128_S8704x16128_S128x1x8704_2_1_01_0_n_n none x w

/-- The gated product. -/
def gate (g u : FVec Ideal S128x1x8704 .f32) : FVec Ideal S128x8704 .bf16 :=
  shapeCast S128x8704 (truncf .bf16 (mulf (mulf g (Host.divf (broadcastInDim S128x1x8704 ![] bcast_S_S128x1x8704 (constant S_ .f32 0x3F800000#32))
    (addf (broadcastInDim S128x1x8704 ![] bcast_S_S128x1x8704 (constant S_ .f32 0x3F800000#32)) (Host.exp (Host.negf g))))) u) bitsLt_bf16_f32)
    shapeCasts_S128x1x8704_S128x8704

/-- A weight of the reference is its code times the scale of its block of 32. -/
theorem weights_apply (s : FVec Ideal S8704x504 .f32) (q : Vec Ideal S8704x16128 .i8) (n : Fin 8704) (K : Fin 16128) :
    weights s q (ix2 n K) = val (q (ix2 n K)) * s (ix2 n ⟨K.val / 32, by omega⟩) := by
  pointwise [weights]
  show ((((q (ix2 n K)).signExtend 32).toInt : ℝ) : EReal) * _ = _
  rw [BitVec.toInt_signExtend_of_le (by decide)]
  rfl

/-- The reference's linear map is the sum over all columns of activation times weight. -/
theorem linear_apply (x : Vec Ideal S128x1x16128 .bf16) (w : FVec Ideal S8704x16128 .bf16) (a : Fin 128) (n : Fin 8704) :
    linear x w (ix3 a 0 n) = ∑ K : Fin 16128, x (ix3 a 0 K) * w (ix2 n K) := by
  pointwise [linear]

/-- The gated product of the reference, entry by entry: g times logistic of g times u. -/
theorem gate_apply (g u : FVec Ideal S128x1x8704 .f32) (a : Fin 128) (n : Fin 8704) :
    gate g u (ix2 a n) = g (ix3 a 0 n) * Ideal.logistic (g (ix3 a 0 n)) * u (ix3 a 0 n) := by
  pointwise [gate]
  rfl

variable (m : (ℓ : Loc nD τ sig) → Buf (Elt Ideal) ℓ) (c : Dev nD)

abbrev xArg : Vec Ideal S128x1x16128 .bf16 := m ((c.tc : Thread nD τ).loc main_arg0)
abbrev gqArg : Vec Ideal S8704x16128 .i8 := m ((c.tc : Thread nD τ).loc main_arg1)
abbrev gdArg : Vec Ideal S8704x504 .i16 := m ((c.tc : Thread nD τ).loc main_arg2)
abbrev uqArg : Vec Ideal S8704x16128 .i8 := m ((c.tc : Thread nD τ).loc main_arg3)
abbrev udArg : Vec Ideal S8704x504 .i16 := m ((c.tc : Thread nD τ).loc main_arg4)

/-- The reference's result as the gated product of its two linear maps. -/
theorem result_eq : Value.res_main_v77 (F := Ideal) m c =
    gate (linear (xArg m c) (weights (scales (Ideal.ofBits .f32 0x33800000#32) (Ideal.ofBits .f32 0x40000000#32) (gdArg m c)) (gqArg m c)))
      (linear (xArg m c) (weights (scales (Ideal.ofBits .f32 0x33800000#32) (Ideal.ofBits .f32 0x40000000#32) (udArg m c)) (uqArg m c))) := by
  rfl

/-- One linear map of the reference at an index. -/
theorem linear_lin (x : Vec Ideal S128x1x16128 .bf16) (q : Vec Ideal S8704x16128 .i8) (d : Vec Ideal S8704x504 .i16) (a : Fin 128) (n : Fin 8704) :
    linear x (weights (scales (Ideal.ofBits .f32 0x33800000#32) (Ideal.ofBits .f32 0x40000000#32) d) q) (ix3 a 0 n) = lin x q d a n := by
  rw [ofBits_unit, ofBits_two, linear_apply]
  unfold lin term
  refine Finset.sum_congr rfl fun K _ => ?_
  rw [weights_apply, scales_apply]

/-- The reference's result at an index. -/
theorem result_apply (a : Fin 128) (n : Fin 8704) :
    (Value.res_main_v77 (F := Ideal) m c : FVec Ideal S128x8704 .bf16) (ix2 a n)
      = lin (xArg m c) (gqArg m c) (gdArg m c) a n * Ideal.logistic (lin (xArg m c) (gqArg m c) (gdArg m c) a n)
        * lin (xArg m c) (uqArg m c) (udArg m c) a n := by
  rw [result_eq, gate_apply, linear_lin, linear_lin]

end Cert.ReferenceIdeal.Ref

end
-- ==== Proof.lean ====
/- The proof of the certificate's claims: the three frames come from the generated modules, the replaced pair of bf16 rows from the
   library's rule, and the equality of results from `KerValue` (what the kernel computes) and `RefValue` (what the reference computes). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KerValue
public import proofs.«01_k».proof.Proof.RefValue
public import Idealize.ShloMosaic.Lib.Bf16Pair
public import Idealize.ShloMosaic.Adequacy
public import Idealize.ShloMosaic.Init

@[expose] public section

noncomputable section

namespace Cert.Proof

open Idealize.ShloMosaic Idealize.SL.Sem Cert.Kernel

/-- The reference's result is the kernel's, from memories that agree on the arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : Cert.ReferenceIdeal.Ref.xArg m' c = Cert.KernelIdeal.Sweep.xArg m c)
    (h1 : Cert.ReferenceIdeal.Ref.gqArg m' c = Cert.KernelIdeal.Sweep.gqArg m c)
    (h2 : Cert.ReferenceIdeal.Ref.gdArg m' c = Cert.KernelIdeal.Sweep.gdArg m c)
    (h3 : Cert.ReferenceIdeal.Ref.uqArg m' c = Cert.KernelIdeal.Sweep.uqArg m c)
    (h4 : Cert.ReferenceIdeal.Ref.udArg m' c = Cert.KernelIdeal.Sweep.udArg m c) :
    (Cert.ReferenceIdeal.Value.res_main_v77 (F := Ideal) m' c : FVec Ideal Cert.KernelIdeal.S128x8704 .bf16)
      = (Cert.KernelIdeal.Value.G5 m c : FVec Ideal Cert.KernelIdeal.S128x8704 .bf16) := by
  have key (a : Fin 128) (n : Fin 8704) :
      (Cert.ReferenceIdeal.Value.res_main_v77 (F := Ideal) m' c : FVec Ideal Cert.KernelIdeal.S128x8704 .bf16) (ix2 a n)
        = (Cert.KernelIdeal.Value.G5 m c : FVec Ideal Cert.KernelIdeal.S128x8704 .bf16) (ix2 a n) := by
    refine (Cert.ReferenceIdeal.Ref.result_apply m' c a n).trans ?_
    rw [h0, h1, h2, h3, h4]
    exact (Cert.KernelIdeal.Sweep.G5_apply m c a n).symm
  funext i
  rw [eq_ix2 i]
  exact key _ _

/-- The idealized kernel and the idealized reference end with equal results and unchanged arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G5 m c, Cert.KernelIdeal.Value.run m g, ?_⟩
  refine (θ_run _ _ _).mono (fun r h c => ?_) (Cert.ReferenceIdeal.Value.run (F := Ideal) m' g')
  obtain ⟨h0, h1, h2, h3, h4⟩ := hargs c
  exact ⟨(h c).1.trans (result_eq m m' c h0 h1 h2 h3 h4), (h c).2⟩

/-- The reference runs without fault, leaves its arguments unchanged, and ends with every counter at zero: it has none. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2, Idealize.ShloMosaic.sem_eq_zero_of_no_sems (by decide) r.2⟩) (Cert.ReferenceIdeal.Value.run m ρ)

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference,
  IdealRules.bf16_pair.statement Cert.KernelIdeal.S512x128 Cert.KernelIdeal.S256x128 Cert.KernelIdeal.Gen.facts.bitcasts_S512x128_w16_S256x128_w32,
  algebraic⟩

end Cert.Proof

end
